-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x100x128 : Shape := ⟨3, ![4096, 100, 128]⟩
abbrev S12800 : Shape := ⟨1, ![12800]⟩
abbrev S_ : Shape := ⟨0, ![]⟩

class Facts : Prop where
  bcast_S_S12800 : S_.BroadcastsInDim S12800 (![] : Fin 0 → Fin S12800.rank)
  reducesTo_S12800_S_d0 : S12800.ReducesTo [0] S_
  h_S_ : 0 < S_.numel

variable [Facts]

def fn {F : FTy → Type} [FloatOps F] (main_arg0 : FVec F S4096x100x128 .f32) (main_arg1 : IVec S12800 32) : IVec S_ 1 :=
  let main_c : IVec S_ 32 := constantI S_ 32 0#32
  let main_v0 : IVec S12800 32 := broadcastInDim S12800 ![] bcast_S_S12800 main_c
  let main_v1 : IVec S12800 1 := cmpi .sge main_arg1 main_v0
  let main_c_0 : IVec S_ 32 := constantI S_ 32 12800#32
  let main_v2 : IVec S12800 32 := broadcastInDim S12800 ![] bcast_S_S12800 main_c_0
  let main_v3 : IVec S12800 1 := cmpi .slt main_arg1 main_v2
  let main_v4 : IVec S12800 1 := andi main_v1 main_v3
  let main_c_1 : IVec S_ 1 := constantI S_ 1 1#1
  let main_v5 : IVec S_ 1 := (fun x v => Host.reduce IntOp.andi x v reducesTo_S12800_S_d0 h_S_) main_v4 main_c_1
  main_v5
-- ==== Kernel.lean ====
abbrev S4096x100x128 : Shape := ⟨3, ![4096, 100, 128]⟩
abbrev S12800 : Shape := ⟨1, ![12800]⟩
abbrev S100x4096x128 : Shape := ⟨3, ![100, 4096, 128]⟩
abbrev S400x2x16 : Shape := ⟨3, ![400, 2, 16]⟩
abbrev S400x1x16 : Shape := ⟨3, ![400, 1, 16]⟩
abbrev S400x16 : Shape := ⟨2, ![400, 16]⟩
abbrev S_ : Shape := ⟨0, ![]⟩
abbrev S6400 : Shape := ⟨1, ![6400]⟩
abbrev S52428800 : Shape := ⟨1, ![52428800]⟩
abbrev S100x128 : Shape := ⟨2, ![100, 128]⟩
abbrev S4 : Shape := ⟨1, ![4]⟩
abbrev S100x1x128 : Shape := ⟨3, ![100, 1, 128]⟩
abbrev S1 : Shape := ⟨1, ![1]⟩
abbrev S16 : Shape := ⟨1, ![16]⟩
abbrev S4096x12800x1 : Shape := ⟨3, ![4096, 12800, 1]⟩

abbrev nBuf : Table → Nat
  | .hbm => 15
  | .local .scVector .vmem => 9
  | _ => 0

abbrev bufTy : (tb : Table) → Fin (nBuf tb) → BufTy
  | .hbm, ⟨0, _⟩ => ⟨S4096x100x128, .f32⟩
  | .hbm, ⟨1, _⟩ => ⟨S12800, .i32⟩
  | .hbm, ⟨2, _⟩ => ⟨S100x4096x128, .f32⟩
  | .hbm, ⟨3, _⟩ => ⟨S400x2x16, .i32⟩
  | .hbm, ⟨4, _⟩ => ⟨S400x1x16, .i32⟩
  | .hbm, ⟨5, _⟩ => ⟨S400x16, .i32⟩
  | .hbm, ⟨6, _⟩ => ⟨S400x1x16, .i32⟩
  | .hbm, ⟨7, _⟩ => ⟨S400x16, .i32⟩
  | .hbm, ⟨8, _⟩ => ⟨S_, .i32⟩
  | .hbm, ⟨9, _⟩ => ⟨S400x16, .i32⟩
  | .hbm, ⟨10, _⟩ => ⟨S400x16, .i32⟩
  | .hbm, ⟨11, _⟩ => ⟨S400x16, .i32⟩
  | .hbm, ⟨12, _⟩ => ⟨S6400, .i32⟩
  | .hbm, ⟨13, _⟩ => ⟨S52428800, .f32⟩
  | .hbm, ⟨14, _⟩ => ⟨S4096x12800x1, .f32⟩
  | .local .scVector .vmem, ⟨0, _⟩ => ⟨S6400, .i32⟩
  | .local .scVector .vmem, ⟨1, _⟩ => ⟨S100x128, .f32⟩
  | .local .scVector .vmem, ⟨2, _⟩ => ⟨S100x128, .f32⟩
  | .local .scVector .vmem, ⟨3, _⟩ => ⟨S100x128, .f32⟩
  | .local .scVector .vmem, ⟨4, _⟩ => ⟨S100x128, .f32⟩
  | .local .scVector .vmem, ⟨5, _⟩ => ⟨S12800, .f32⟩
  | .local .scVector .vmem, ⟨6, _⟩ => ⟨S12800, .f32⟩
  | .local .scVector .vmem, ⟨7, _⟩ => ⟨S12800, .f32⟩
  | .local .scVector .vmem, ⟨8, _⟩ => ⟨S12800, .f32⟩
  | _, _ => ⟨S4096x100x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v0_scv : Ref sig .scVector := ⟨.hbm, 2, rfl⟩
abbrev main_v9_scv : Ref sig .scVector := ⟨.hbm, 12, rfl⟩
abbrev main_v10_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let c0_i32_1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_2 : BitVec 32 := 0#32
  ![0, v3.toNat, 0]
@[reducible] def k0_t1_loop : Scf.Loop 32 :=
  let c0_i32_22 : BitVec 32 := 0#32
  let c32_i32 : BitVec 32 := 32#32
  let v31 : BitVec 32 := Scalar.addi c0_i32_22 c32_i32
  let c1_i32_23 : BitVec 32 := 1#32
  ⟨c0_i32_22, v31, c1_i32_23⟩
def k0_off2 (i : grid0.Coords) (k0_t1 : Fin k0_t1_loop.trips) (c0_i32_44 : BitVec 32) : Fin 3 → Nat :=
  let c0_i32_46 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_43 : BitVec 32 := 4#32
  let c0_i32_22 : BitVec 32 := 0#32
  let c1_i32_23 : BitVec 32 := 1#32
  let arg16 : BitVec 32 := Scf.iv c0_i32_22 c1_i32_23 k0_t1
  let v64 : BitVec 32 := Scalar.muli c4_i32_43 arg16
  let v65 : BitVec 32 := Scalar.addi v64 c0_i32_44
  let v66 : BitVec 32 := Scalar.addi v2 v65
  let c0_i32_47 : BitVec 32 := 0#32
  ![0, v66.toNat, 0]
def k0_off3 (i : grid0.Coords) (k0_t1 : Fin k0_t1_loop.trips) (c0_i32_44 : BitVec 32) : Fin 3 → Nat :=
  let c0_i32_52 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_43 : BitVec 32 := 4#32
  let c0_i32_22 : BitVec 32 := 0#32
  let c1_i32_23 : BitVec 32 := 1#32
  let arg16 : BitVec 32 := Scf.iv c0_i32_22 c1_i32_23 k0_t1
  let v64 : BitVec 32 := Scalar.muli c4_i32_43 arg16
  let v65 : BitVec 32 := Scalar.addi v64 c0_i32_44
  let v73 : BitVec 32 := Scalar.addi v2 v65
  let c1_i32_50 : BitVec 32 := 1#32
  let v74 : BitVec 32 := Scalar.addi v73 c1_i32_50
  let c0_i32_53 : BitVec 32 := 0#32
  ![0, v74.toNat, 0]
def k0_cond1 (k0_t1 : Fin k0_t1_loop.trips) : BitVec 1 :=
  let c0_i32_22 : BitVec 32 := 0#32
  let c1_i32_23 : BitVec 32 := 1#32
  let arg16 : BitVec 32 := Scf.iv c0_i32_22 c1_i32_23 k0_t1
  let c1_i32_56 : BitVec 32 := 1#32
  let v81 : BitVec 1 := Scalar.cmpi .sge arg16 c1_i32_56
  let v82 : BitVec 32 := Scalar.extui v81
  let c0_i32_57 : BitVec 32 := 0#32
  let v83 : BitVec 1 := Scalar.cmpi .ne v82 c0_i32_57
  v83

def k0_off4 (i : grid0.Coords) (k0_t1 : Fin k0_t1_loop.trips) (c4_i32_96 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_43 : BitVec 32 := 4#32
  let c0_i32_22 : BitVec 32 := 0#32
  let c1_i32_23 : BitVec 32 := 1#32
  let arg16 : BitVec 32 := Scf.iv c0_i32_22 c1_i32_23 k0_t1
  let v64 : BitVec 32 := Scalar.muli c4_i32_43 arg16
  let c0_i32_44 : BitVec 32 := 0#32
  let v65 : BitVec 32 := Scalar.addi v64 c0_i32_44
  let v140 : BitVec 32 := Scalar.addi v2 v65
  let v141 : BitVec 32 := Scalar.subi v140 c4_i32_96
  let c12800_i32_97 : BitVec 32 := 12800#32
  let v142 : BitVec 32 := Scalar.muli v141 c12800_i32_97
  ![v142.toNat]
@[reducible] def k0_t2_loop : Scf.Loop 32 :=
  let c0_i32_58 : BitVec 32 := 0#32
  let c400_i32 : BitVec 32 := 400#32
  let v84 : BitVec 32 := Scalar.addi c0_i32_58 c400_i32
  let c1_i32_59 : BitVec 32 := 1#32
  ⟨c0_i32_58, v84, c1_i32_59⟩
def k0_off5 (k0_t2 : Fin k0_t2_loop.trips) : Fin 1 → Nat :=
  let c0_i32_96 : BitVec 32 := 0#32
  let c0_i32_58 : BitVec 32 := 0#32
  let c1_i32_59 : BitVec 32 := 1#32
  let arg17 : BitVec 32 := Scf.iv c0_i32_58 c1_i32_59 k0_t2
  let c16_i32 : BitVec 32 := 16#32
  let v140 : BitVec 32 := Scalar.muli arg17 c16_i32
  let v141 : BitVec 32 := Scalar.addi c0_i32_96 v140
  let v142 : Index := Scalar.indexCast v141
  ![v142.toNat]
def k0_off6 (k0_t2 : Fin k0_t2_loop.trips) : Fin 1 → Nat :=
  let c2_i32_100 : BitVec 32 := 2#32
  let c0_i32_96 : BitVec 32 := 0#32
  let c0_i32_58 : BitVec 32 := 0#32
  let c1_i32_59 : BitVec 32 := 1#32
  let arg17 : BitVec 32 := Scf.iv c0_i32_58 c1_i32_59 k0_t2
  let c16_i32 : BitVec 32 := 16#32
  let v140 : BitVec 32 := Scalar.muli arg17 c16_i32
  let v141 : BitVec 32 := Scalar.addi c0_i32_96 v140
  let v150 : BitVec 32 := Scalar.muli c2_i32_100 v141
  let c0_i32_101 : BitVec 32 := 0#32
  let v156 : BitVec 32 := Scalar.addi v150 c0_i32_101
  let v157 : Index := Scalar.indexCast v156
  ![v157.toNat]

def k0_chk1 (v152 : IVec S16 32) (v154 : IVec S16 32) : Prop :=
  (∀ a x, ((![v152, v154] : Fin 2 → IVec S16 32) a x).toNat < S100x128.size a) ∧
  (∀ a x, ((![v152, v154] : Fin 2 → IVec S16 32) a x).toNat < S100x128.size a)
theorem k0_idx1_inb : ∀ (v152 : IVec S16 32) (v154 : IVec S16 32) (k0_hw1 : k0_chk1 v152 v154), ∀ a x, ((![v152, v154] : Fin 2 → IVec S16 32) a x).toNat < S100x128.size a := fun v152 v154 k0_hw1 => k0_hw1.1
theorem k0_idx2_inb : ∀ (v152 : IVec S16 32) (v154 : IVec S16 32) (k0_hw1 : k0_chk1 v152 v154), ∀ a x, ((![v152, v154] : Fin 2 → IVec S16 32) a x).toNat < S100x128.size a := fun v152 v154 k0_hw1 => k0_hw1.2
def k0_off7 (k0_t2 : Fin k0_t2_loop.trips) : Fin 1 → Nat :=
  let c2_i32_100 : BitVec 32 := 2#32
  let c0_i32_96 : BitVec 32 := 0#32
  let c0_i32_58 : BitVec 32 := 0#32
  let c1_i32_59 : BitVec 32 := 1#32
  let arg17 : BitVec 32 := Scf.iv c0_i32_58 c1_i32_59 k0_t2
  let c16_i32 : BitVec 32 := 16#32
  let v140 : BitVec 32 := Scalar.muli arg17 c16_i32
  let v141 : BitVec 32 := Scalar.addi c0_i32_96 v140
  let v150 : BitVec 32 := Scalar.muli c2_i32_100 v141
  let c16_i32_105 : BitVec 32 := 16#32
  let v168 : BitVec 32 := Scalar.addi v150 c16_i32_105
  let v169 : Index := Scalar.indexCast v168
  ![v169.toNat]

def k0_chk2 (v164 : IVec S16 32) (v166 : IVec S16 32) : Prop :=
  (∀ a x, ((![v164, v166] : Fin 2 → IVec S16 32) a x).toNat < S100x128.size a) ∧
  (∀ a x, ((![v164, v166] : Fin 2 → IVec S16 32) a x).toNat < S100x128.size a)
theorem k0_idx3_inb : ∀ (v164 : IVec S16 32) (v166 : IVec S16 32) (k0_hw2 : k0_chk2 v164 v166), ∀ a x, ((![v164, v166] : Fin 2 → IVec S16 32) a x).toNat < S100x128.size a := fun v164 v166 k0_hw2 => k0_hw2.1
theorem k0_idx4_inb : ∀ (v164 : IVec S16 32) (v166 : IVec S16 32) (k0_hw2 : k0_chk2 v164 v166), ∀ a x, ((![v164, v166] : Fin 2 → IVec S16 32) a x).toNat < S100x128.size a := fun v164 v166 k0_hw2 => k0_hw2.2
def k0_cond2 (k0_t1 : Fin k0_t1_loop.trips) : BitVec 1 :=
  let c4_i32_43 : BitVec 32 := 4#32
  let c0_i32_22 : BitVec 32 := 0#32
  let c1_i32_23 : BitVec 32 := 1#32
  let arg16 : BitVec 32 := Scf.iv c0_i32_22 c1_i32_23 k0_t1
  let v64 : BitVec 32 := Scalar.muli c4_i32_43 arg16
  let c0_i32_44 : BitVec 32 := 0#32
  let v65 : BitVec 32 := Scalar.addi v64 c0_i32_44
  let c4_i32_61 : BitVec 32 := 4#32
  let v85 : BitVec 32 := Scalar.addi v65 c4_i32_61
  let c128_i32_62 : BitVec 32 := 128#32
  let v86 : BitVec 1 := Scalar.cmpi .slt v85 c128_i32_62
  let v87 : BitVec 32 := Scalar.extui v86
  let c0_i32_63 : BitVec 32 := 0#32
  let v88 : BitVec 1 := Scalar.cmpi .ne v87 c0_i32_63
  v88

def k0_off8 (i : grid0.Coords) (k0_t1 : Fin k0_t1_loop.trips) (c4_i32_96 : BitVec 32) : Fin 3 → Nat :=
  let c0_i32_98 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_43 : BitVec 32 := 4#32
  let c0_i32_22 : BitVec 32 := 0#32
  let c1_i32_23 : BitVec 32 := 1#32
  let arg16 : BitVec 32 := Scf.iv c0_i32_22 c1_i32_23 k0_t1
  let v64 : BitVec 32 := Scalar.muli c4_i32_43 arg16
  let c0_i32_44 : BitVec 32 := 0#32
  let v65 : BitVec 32 := Scalar.addi v64 c0_i32_44
  let v140 : BitVec 32 := Scalar.addi v2 v65
  let v141 : BitVec 32 := Scalar.addi v140 c4_i32_96
  let c0_i32_99 : BitVec 32 := 0#32
  ![0, v141.toNat, 0]
def k0_off9 (i : grid0.Coords) (k0_t1 : Fin k0_t1_loop.trips) (c0_i32_44 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_43 : BitVec 32 := 4#32
  let c0_i32_22 : BitVec 32 := 0#32
  let c1_i32_23 : BitVec 32 := 1#32
  let arg16 : BitVec 32 := Scf.iv c0_i32_22 c1_i32_23 k0_t1
  let v64 : BitVec 32 := Scalar.muli c4_i32_43 arg16
  let v65 : BitVec 32 := Scalar.addi v64 c0_i32_44
  let v89 : BitVec 32 := Scalar.addi v2 v65
  let c12800_i32_64 : BitVec 32 := 12800#32
  let v90 : BitVec 32 := Scalar.muli v89 c12800_i32_64
  ![v90.toNat]
def k0_off10 (i : grid0.Coords) (k0_t1 : Fin k0_t1_loop.trips) (c0_i32_44 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_43 : BitVec 32 := 4#32
  let c0_i32_22 : BitVec 32 := 0#32
  let c1_i32_23 : BitVec 32 := 1#32
  let arg16 : BitVec 32 := Scf.iv c0_i32_22 c1_i32_23 k0_t1
  let v64 : BitVec 32 := Scalar.muli c4_i32_43 arg16
  let v65 : BitVec 32 := Scalar.addi v64 c0_i32_44
  let v95 : BitVec 32 := Scalar.addi v2 v65
  let c1_i32_66 : BitVec 32 := 1#32
  let v96 : BitVec 32 := Scalar.addi v95 c1_i32_66
  let c12800_i32_67 : BitVec 32 := 12800#32
  let v97 : BitVec 32 := Scalar.muli v96 c12800_i32_67
  ![v97.toNat]
def k0_cond3 (k0_t1 : Fin k0_t1_loop.trips) : BitVec 1 :=
  let c0_i32_22 : BitVec 32 := 0#32
  let c1_i32_23 : BitVec 32 := 1#32
  let arg16 : BitVec 32 := Scf.iv c0_i32_22 c1_i32_23 k0_t1
  let c1_i32_82 : BitVec 32 := 1#32
  let v119 : BitVec 1 := Scalar.cmpi .sge arg16 c1_i32_82
  let v120 : BitVec 32 := Scalar.extui v119
  let c0_i32_83 : BitVec 32 := 0#32
  let v121 : BitVec 1 := Scalar.cmpi .ne v120 c0_i32_83
  v121

def k0_off11 (i : grid0.Coords) (k0_t1 : Fin k0_t1_loop.trips) (c4_i32_96 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_69 : BitVec 32 := 4#32
  let c0_i32_22 : BitVec 32 := 0#32
  let c1_i32_23 : BitVec 32 := 1#32
  let arg16 : BitVec 32 := Scf.iv c0_i32_22 c1_i32_23 k0_t1
  let v102 : BitVec 32 := Scalar.muli c4_i32_69 arg16
  let c2_i32_70 : BitVec 32 := 2#32
  let v103 : BitVec 32 := Scalar.addi v102 c2_i32_70
  let v140 : BitVec 32 := Scalar.addi v2 v103
  let v141 : BitVec 32 := Scalar.subi v140 c4_i32_96
  let c12800_i32_97 : BitVec 32 := 12800#32
  let v142 : BitVec 32 := Scalar.muli v141 c12800_i32_97
  ![v142.toNat]
@[reducible] def k0_t3_loop : Scf.Loop 32 :=
  let c0_i32_84 : BitVec 32 := 0#32
  let c400_i32_85 : BitVec 32 := 400#32
  let v122 : BitVec 32 := Scalar.addi c0_i32_84 c400_i32_85
  let c1_i32_86 : BitVec 32 := 1#32
  ⟨c0_i32_84, v122, c1_i32_86⟩
def k0_off12 (k0_t3 : Fin k0_t3_loop.trips) : Fin 1 → Nat :=
  let c0_i32_96 : BitVec 32 := 0#32
  let c0_i32_84 : BitVec 32 := 0#32
  let c1_i32_86 : BitVec 32 := 1#32
  let arg17 : BitVec 32 := Scf.iv c0_i32_84 c1_i32_86 k0_t3
  let c16_i32 : BitVec 32 := 16#32
  let v140 : BitVec 32 := Scalar.muli arg17 c16_i32
  let v141 : BitVec 32 := Scalar.addi c0_i32_96 v140
  let v142 : Index := Scalar.indexCast v141
  ![v142.toNat]
def k0_off13 (k0_t3 : Fin k0_t3_loop.trips) : Fin 1 → Nat :=
  let c2_i32_100 : BitVec 32 := 2#32
  let c0_i32_96 : BitVec 32 := 0#32
  let c0_i32_84 : BitVec 32 := 0#32
  let c1_i32_86 : BitVec 32 := 1#32
  let arg17 : BitVec 32 := Scf.iv c0_i32_84 c1_i32_86 k0_t3
  let c16_i32 : BitVec 32 := 16#32
  let v140 : BitVec 32 := Scalar.muli arg17 c16_i32
  let v141 : BitVec 32 := Scalar.addi c0_i32_96 v140
  let v150 : BitVec 32 := Scalar.muli c2_i32_100 v141
  let c0_i32_101 : BitVec 32 := 0#32
  let v156 : BitVec 32 := Scalar.addi v150 c0_i32_101
  let v157 : Index := Scalar.indexCast v156
  ![v157.toNat]

def k0_chk3 (v152 : IVec S16 32) (v154 : IVec S16 32) : Prop :=
  (∀ a x, ((![v152, v154] : Fin 2 → IVec S16 32) a x).toNat < S100x128.size a) ∧
  (∀ a x, ((![v152, v154] : Fin 2 → IVec S16 32) a x).toNat < S100x128.size a)
theorem k0_idx5_inb : ∀ (v152 : IVec S16 32) (v154 : IVec S16 32) (k0_hw3 : k0_chk3 v152 v154), ∀ a x, ((![v152, v154] : Fin 2 → IVec S16 32) a x).toNat < S100x128.size a := fun v152 v154 k0_hw3 => k0_hw3.1
theorem k0_idx6_inb : ∀ (v152 : IVec S16 32) (v154 : IVec S16 32) (k0_hw3 : k0_chk3 v152 v154), ∀ a x, ((![v152, v154] : Fin 2 → IVec S16 32) a x).toNat < S100x128.size a := fun v152 v154 k0_hw3 => k0_hw3.2
def k0_off14 (k0_t3 : Fin k0_t3_loop.trips) : Fin 1 → Nat :=
  let c2_i32_100 : BitVec 32 := 2#32
  let c0_i32_96 : BitVec 32 := 0#32
  let c0_i32_84 : BitVec 32 := 0#32
  let c1_i32_86 : BitVec 32 := 1#32
  let arg17 : BitVec 32 := Scf.iv c0_i32_84 c1_i32_86 k0_t3
  let c16_i32 : BitVec 32 := 16#32
  let v140 : BitVec 32 := Scalar.muli arg17 c16_i32
  let v141 : BitVec 32 := Scalar.addi c0_i32_96 v140
  let v150 : BitVec 32 := Scalar.muli c2_i32_100 v141
  let c16_i32_105 : BitVec 32 := 16#32
  let v168 : BitVec 32 := Scalar.addi v150 c16_i32_105
  let v169 : Index := Scalar.indexCast v168
  ![v169.toNat]

def k0_chk4 (v164 : IVec S16 32) (v166 : IVec S16 32) : Prop :=
  (∀ a x, ((![v164, v166] : Fin 2 → IVec S16 32) a x).toNat < S100x128.size a) ∧
  (∀ a x, ((![v164, v166] : Fin 2 → IVec S16 32) a x).toNat < S100x128.size a)
theorem k0_idx7_inb : ∀ (v164 : IVec S16 32) (v166 : IVec S16 32) (k0_hw4 : k0_chk4 v164 v166), ∀ a x, ((![v164, v166] : Fin 2 → IVec S16 32) a x).toNat < S100x128.size a := fun v164 v166 k0_hw4 => k0_hw4.1
theorem k0_idx8_inb : ∀ (v164 : IVec S16 32) (v166 : IVec S16 32) (k0_hw4 : k0_chk4 v164 v166), ∀ a x, ((![v164, v166] : Fin 2 → IVec S16 32) a x).toNat < S100x128.size a := fun v164 v166 k0_hw4 => k0_hw4.2
def k0_cond4 (k0_t1 : Fin k0_t1_loop.trips) : BitVec 1 :=
  let c4_i32_69 : BitVec 32 := 4#32
  let c0_i32_22 : BitVec 32 := 0#32
  let c1_i32_23 : BitVec 32 := 1#32
  let arg16 : BitVec 32 := Scf.iv c0_i32_22 c1_i32_23 k0_t1
  let v102 : BitVec 32 := Scalar.muli c4_i32_69 arg16
  let c2_i32_70 : BitVec 32 := 2#32
  let v103 : BitVec 32 := Scalar.addi v102 c2_i32_70
  let c4_i32_88 : BitVec 32 := 4#32
  let v123 : BitVec 32 := Scalar.addi v103 c4_i32_88
  let c128_i32_89 : BitVec 32 := 128#32
  let v124 : BitVec 1 := Scalar.cmpi .slt v123 c128_i32_89
  let v125 : BitVec 32 := Scalar.extui v124
  let c0_i32_90 : BitVec 32 := 0#32
  let v126 : BitVec 1 := Scalar.cmpi .ne v125 c0_i32_90
  v126

def k0_off15 (i : grid0.Coords) (k0_t1 : Fin k0_t1_loop.trips) (c4_i32_96 : BitVec 32) : Fin 3 → Nat :=
  let c0_i32_98 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32_69 : BitVec 32 := 4#32
  let c0_i32_22 : BitVec 32 := 0#32
  let c1_i32_23 : BitVec 32 := 1#32
  let arg16 : BitVec 32 := Scf.iv c0_i32_22 c1_i32_23 k0_t1
  let v102 : BitVec 32 := Scalar.muli c4_i32_69 arg16
  let c2_i32_70 : BitVec 32 := 2#32
  let v103 : BitVec 32 := Scalar.addi v102 c2_i32_70
  let v140 : BitVec 32 := Scalar.addi v2 v103
  let v141 : BitVec 32 := Scalar.addi v140 c4_i32_96
  let c0_i32_99 : BitVec 32 := 0#32
  ![0, v141.toNat, 0]
def k0_off16 (i : grid0.Coords) (c0_i32_26 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c128_i32_25 : BitVec 32 := 128#32
  let v32 : BitVec 32 := Scalar.addi v2 c128_i32_25
  let c4_i32 : BitVec 32 := 4#32
  let v33 : BitVec 32 := Scalar.subi v32 c4_i32
  let v34 : BitVec 32 := Scalar.addi v33 c0_i32_26
  let c12800_i32 : BitVec 32 := 12800#32
  let v35 : BitVec 32 := Scalar.muli v34 c12800_i32
  ![v35.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x100x128 : Shape := ⟨3, ![4096, 100, 128]⟩
abbrev S12800 : Shape := ⟨1, ![12800]⟩
abbrev S4096x12800x1 : Shape := ⟨3, ![4096, 12800, 1]⟩
abbrev S_ : Shape := ⟨0, ![]⟩
abbrev S12800x1 : Shape := ⟨2, ![12800, 1]⟩

abbrev nBuf : Space → Nat
  | .hbm => 12
  | .vmem => 0
  | .smem => 0
  | _ => 0

abbrev bufTy : (tb : Table) → Fin (tcTables nBuf tb) → BufTy
  | .hbm, ⟨0, _⟩ => ⟨S4096x100x128, .f32⟩
  | .hbm, ⟨1, _⟩ => ⟨S12800, .i32⟩
  | .hbm, ⟨2, _⟩ => ⟨S4096x12800x1, .f32⟩
  | .hbm, ⟨3, _⟩ => ⟨S_, .i32⟩
  | .hbm, ⟨4, _⟩ => ⟨S12800, .i32⟩
  | .hbm, ⟨5, _⟩ => ⟨S12800, .i1⟩
  | .hbm, ⟨6, _⟩ => ⟨S_, .i32⟩
  | .hbm, ⟨7, _⟩ => ⟨S12800, .i32⟩
  | .hbm, ⟨8, _⟩ => ⟨S12800, .i32⟩
  | .hbm, ⟨9, _⟩ => ⟨S12800, .i32⟩
  | .hbm, ⟨10, _⟩ => ⟨S12800x1, .i32⟩
  | .hbm, ⟨11, _⟩ => ⟨S4096x12800x1, .f32⟩
  | _, _ => ⟨S4096x100x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Spec.lean ====
/-
  What one task computes, as plain functions of the arrays it reads.

  The kernel reads `Mt` (the argument `M` with its first two axes exchanged, `100 × 4096 × 128`) and a packed index
  list of 6400 words. Word `16 g + j` of the list holds two indices: its low 16 bits are index `32 g + j`, its high 16
  bits index `32 g + 16 + j`. Result row `b` is, at place `o`, the element `Mt[k / 128, b, k % 128]` for the `o`-th
  index `k`; the flat result array holds the 4096 rows one after another, 12800 elements each.
-/
module

public import proofs.«01_k».proof.Proof.Gen.KernelIdeal
public import proofs.«01_k».proof.Proof.Gen.KernelIdeal.Skeleton

@[expose] public section

noncomputable section

namespace Cert.Proof.Spec

open Cert.KernelIdeal Cert.KernelIdeal.Gen
open Idealize.ShloMosaic

/-! ## Indices by their coordinates -/

/-- The multi-index of the one-axis array of 6400 words at `k` (taken modulo the extent). -/
def at6400 (k : ℕ) : S6400.Idx := fun a => ⟨k % S6400.size a, Nat.mod_lt _ (by fin_cases a; decide)⟩
/-- The multi-index of the `100 × 128` array at `(q, r)` (modulo the extents). -/
def at100x128 (q r : ℕ) : S100x128.Idx := fun a => ⟨(![q, r] : Fin 2 → ℕ) a % S100x128.size a, Nat.mod_lt _ (by fin_cases a <;> decide)⟩
/-- The multi-index of the `100 × 4096 × 128` array at `(q, b, r)` (modulo the extents). -/
def atMt (q b r : ℕ) : S100x4096x128.Idx :=
  fun a => ⟨(![q, b, r] : Fin 3 → ℕ) a % S100x4096x128.size a, Nat.mod_lt _ (by fin_cases a <;> decide)⟩

theorem eq_at6400 (x : S6400.Idx) (k : ℕ) (h : (x 0).val = k) : x = at6400 k := by
  funext a; fin_cases a
  apply Fin.ext
  show (x 0).val = k % 6400
  rw [← h]
  exact (Nat.mod_eq_of_lt (x 0).isLt).symm

theorem eq_at100x128 (x : S100x128.Idx) (q r : ℕ) (h0 : (x 0).val = q) (h1 : (x 1).val = r) : x = at100x128 q r := by
  have e0 := (x 0).isLt
  have e1 := (x 1).isLt
  funext a; fin_cases a
  · apply Fin.ext
    show (x 0).val = q % 100
    rw [← h0]; exact (Nat.mod_eq_of_lt e0).symm
  · apply Fin.ext
    show (x 1).val = r % 128
    rw [← h1]; exact (Nat.mod_eq_of_lt e1).symm

theorem eq_atMt (x : S100x4096x128.Idx) (q b r : ℕ) (h0 : (x 0).val = q) (h1 : (x 1).val = b) (h2 : (x 2).val = r) : x = atMt q b r := by
  have e0 := (x 0).isLt
  have e1 := (x 1).isLt
  have e2 := (x 2).isLt
  funext a; fin_cases a
  · apply Fin.ext
    show (x 0).val = q % 100
    rw [← h0]; exact (Nat.mod_eq_of_lt e0).symm
  · apply Fin.ext
    show (x 1).val = b % 4096
    rw [← h1]; exact (Nat.mod_eq_of_lt e1).symm
  · apply Fin.ext
    show (x 2).val = r % 128
    rw [← h2]; exact (Nat.mod_eq_of_lt e2).symm

/-! ## The packed indices -/

/-- The low 16 bits of a word, sign extended. -/
def lo (w : BitVec 32) : BitVec 32 := (w <<< (16#32 : BitVec 32)).sshiftRight' (16#32 : BitVec 32)
/-- The high 16 bits of a word, sign extended. -/
def hi (w : BitVec 32) : BitVec 32 := w.sshiftRight' (16#32 : BitVec 32)

/-- The `o`-th index of the packed list `pk`. -/
def pix (pk : S6400.Idx → BitVec 32) (o : ℕ) : BitVec 32 :=
  if o % 32 < 16 then lo (pk (at6400 (16 * (o / 32) + o % 16))) else hi (pk (at6400 (16 * (o / 32) + o % 16)))

variable {F : FTy → Type}

/-- Row `b` of `Mt`: the `100 × 128` array of one batch entry. -/
def inRow (mt : S100x4096x128.Idx → Elt F .f32) (b : ℕ) : S100x128.Idx → Elt F .f32 := fun j => mt (atMt (j 0).val b (j 1).val)

/-- Element `o` of result row `b`. -/
def gath (mt : S100x4096x128.Idx → Elt F .f32) (pk : S6400.Idx → BitVec 32) (b o : ℕ) : Elt F .f32 :=
  mt (atMt ((pix pk o).toNat / 128) b ((pix pk o).toNat % 128))

/-- The flat result array. -/
def flatOut (mt : S100x4096x128.Idx → Elt F .f32) (pk : S6400.Idx → BitVec 32) : S52428800.Idx → Elt F .f32 :=
  fun x => gath mt pk ((x 0).val / 12800) ((x 0).val % 12800)

/-- The task's two index vectors from a word of the list, for its low half and for its high half: the row and the
    column of the index, as the kernel's shifts and masks compute them. -/
theorem pay_lo [FloatOps F] (v : Vec F S16 .i32) (x : S16.Idx) :
    ((k0_pay3 v x : BitVec 32).toNat = (lo (v x)).toNat / 128) ∧ ((k0_pay4 v x : BitVec 32).toNat = (lo (v x)).toNat % 128) := by
  have h1 : k0_pay1 v x = lo (v x) := by
    show IntOp.shrsi .vector (IntOp.shli .vector (v x) 16#32) 16#32 = _
    unfold IntOp.shrsi IntOp.shli lo; rw [if_pos (by decide), if_pos (by decide)]
  have h3 : k0_pay3 v x = lo (v x) >>> (7#32 : BitVec 32) := by
    rw [← h1]; show IntOp.shrui .vector (k0_pay1 v x) 7#32 = _
    unfold IntOp.shrui; rw [if_pos (by decide)]
  have h4 : k0_pay4 v x = lo (v x) &&& 127#32 := by rw [← h1]; rfl
  rw [h3, h4]
  constructor
  · rw [BitVec.ushiftRight_eq', BitVec.toNat_ushiftRight, Nat.shiftRight_eq_div_pow]; rfl
  · rw [BitVec.toNat_and]; exact Nat.and_two_pow_sub_one_eq_mod _ 7

/-- The same for the high half. -/
theorem pay_hi [FloatOps F] (v : Vec F S16 .i32) (x : S16.Idx) :
    ((k0_pay5 v x : BitVec 32).toNat = (hi (v x)).toNat / 128) ∧ ((k0_pay6 v x : BitVec 32).toNat = (hi (v x)).toNat % 128) := by
  have h1 : k0_pay2 v x = hi (v x) := by
    show IntOp.shrsi .vector (v x) 16#32 = _
    unfold IntOp.shrsi hi; rw [if_pos (by decide)]
  have h3 : k0_pay5 v x = hi (v x) >>> (7#32 : BitVec 32) := by
    rw [← h1]; show IntOp.shrui .vector (k0_pay2 v x) 7#32 = _
    unfold IntOp.shrui; rw [if_pos (by decide)]
  have h4 : k0_pay6 v x = hi (v x) &&& 127#32 := by rw [← h1]; rfl
  rw [h3, h4]
  constructor
  · rw [BitVec.ushiftRight_eq', BitVec.toNat_ushiftRight, Nat.shiftRight_eq_div_pow]; rfl
  · rw [BitVec.toNat_and]; exact Nat.and_two_pow_sub_one_eq_mod _ 7

/-- Sixteen words from word `16 t` on hold, in their low halves, indices `32 t` to `32 t + 15`, -/
theorem pix_lo (pk : S6400.Idx → BitVec 32) (t x : ℕ) (hx : x < 16) : pix pk (32 * t + x) = lo (pk (at6400 (16 * t + x))) := by
  unfold pix
  have h1 : (32 * t + x) % 32 = x := by omega
  have h2 : (32 * t + x) / 32 = t := by omega
  have h3 : (32 * t + x) % 16 = x := by omega
  rw [h1, h2, h3, if_pos hx]

/-- and in their high halves the sixteen indices after those. -/
theorem pix_hi (pk : S6400.Idx → BitVec 32) (t x : ℕ) (hx : x < 16) : pix pk (32 * t + 16 + x) = hi (pk (at6400 (16 * t + x))) := by
  unfold pix
  have h1 : (32 * t + 16 + x) % 32 = 16 + x := by omega
  have h2 : (32 * t + 16 + x) / 32 = t := by omega
  have h3 : (32 * t + 16 + x) % 16 = x := by omega
  rw [h1, h2, h3, if_neg (by omega)]

/-- Every index of the list names an element of a `100 × 128` array. -/
def InRange (pk : S6400.Idx → BitVec 32) : Prop := ∀ o, o < 12800 → (pix pk o).toNat < 12800

/-- One gathered vector: from row `b` of `Mt`, at index vectors naming the row and column of the indices `o`, `o + 1`, …
    of the list, the elements `o`, `o + 1`, … of result row `b`. -/
theorem loadIdx_inRow (mt : S100x4096x128.Idx → Elt F .f32) (pk : S6400.Idx → BitVec 32) (hpk : InRange pk) (b o : ℕ)
    (ho : o + 16 ≤ 12800) (u v : IVec S16 32) (hu : ∀ x : S16.Idx, (u x).toNat = (pix pk (o + (x 0).val)).toNat / 128)
    (hv : ∀ x : S16.Idx, (v x).toNat = (pix pk (o + (x 0).val)).toNat % 128)
    (h : ∀ a x, ((![u, v] : Fin 2 → IVec S16 32) a x).toNat < S100x128.size a) (x : S16.Idx) :
    loadIdx (F := F) (s := S100x128) (e := .f32) (inRow mt b) ![u, v] h x = gath mt pk b (o + (x 0).val) := by
  unfold gath
  rw [← hu x, ← hv x]
  rfl

/-- The task's check of two index vectors holds when they name the row and column of indices of the list. -/
theorem check (pk : S6400.Idx → BitVec 32) (hpk : InRange pk) (o : ℕ) (ho : o + 16 ≤ 12800) (u v : IVec S16 32)
    (hu : ∀ x : S16.Idx, (u x).toNat = (pix pk (o + (x 0).val)).toNat / 128)
    (hv : ∀ x : S16.Idx, (v x).toNat = (pix pk (o + (x 0).val)).toNat % 128) : k0_chk1 u v := by
  have key : ∀ a x, ((![u, v] : Fin 2 → IVec S16 32) a x).toNat < S100x128.size a := by
    intro a x
    have hx : (x 0).val < 16 := (x 0).isLt
    have := hpk (o + (x 0).val) (by omega)
    fin_cases a
    · show (u x).toNat < 100
      rw [hu x]; omega
    · show (v x).toNat < 128
      rw [hv x]; omega
  exact ⟨key, key⟩

end Cert.Proof.Spec

end
-- ==== Proof.Base.lean ====
/-
  The set-up the kernel's proof shares: the program as the launch theorem sees it, the resource algebra, the arrays and
  the rows the copies move, and what those rows hold.
-/
module

public import proofs.«01_k».proof.Defs
public import proofs.«01_k».proof.Proof.Spec
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and no scratch's, and no scratch of a SparseCore is a task's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the copies' counters -/

abbrev UH : Type := URounds (GSem nD τ sig) ℕ
abbrev UU : Type := UH × Counters

local notation "𝕄" => MT nD τ sig (HIx 1) (Elt F) ℕ UU ℕ
local notation "EC" => (countersEmb : UEmb Counters (MT nD τ sig (SparseCore.Cfg.HIx 1) (Elt F) ℕ UU ℕ))

/-- The handshakes' rounds are the left factor. -/
abbrev EH : Emb UH (MT nD τ sig (SparseCore.Cfg.HIx 1) (Elt F) ℕ UU ℕ) := embL

/-! ## The arrays and the task's place in them -/

/-- `Mt`, the packed list and the flat result, as locations of device `d`. -/
abbrev mtLoc (d : Dev nD) : Loc nD τ sig := (SparseCore.T d).loc main_v0
abbrev pkLoc (d : Dev nD) : Loc nD τ sig := (SparseCore.T d).loc main_v9
abbrev outLoc (d : Dev nD) : Loc nD τ sig := (SparseCore.T d).loc main_v10

abbrev mtV : Memref sig .scVector .hbm S100x4096x128 .f32 := Memref.whole main_v0_scv
abbrev pkV : Memref sig .scVector .hbm S6400 .i32 := Memref.whole main_v9_scv
abbrev outV : Memref sig .scVector .hbm S52428800 .f32 := Memref.whole main_v10_scv

/-- The SparseCore and the subcore of grid point `L`, and its thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The first of the 128 result rows that grid point `L` writes. -/
def base (L : grid0.Coords) : ℕ := 256 * (L 1).val + 128 * (L 0).val

theorem base_le (L : grid0.Coords) : base L + 128 ≤ 4096 := by
  have h0 : (L 0).val < 2 := (L 0).isLt
  have h1 : (L 1).val < 16 := (L 1).isLt
  unfold base; omega

/-- Row `off 1` of `Mt` as a copy's source: a `100 × 1 × 128` box, its unit axis dropped. -/
abbrev srcRow (off : Fin 3 → ℕ) (inb : ∀ a, off a + S100x1x128.size a ≤ S100x4096x128.size a) : Memref sig .scVector .hbm S100x128 .f32 :=
  (mtV.slice (Rect.unit (s := S100x4096x128) off S100x1x128.size inb) (fun _ => rfl)).squeeze S100x128 squeezes_S100x1x128_S100x128
/-- The 12800 elements of the flat result from `off 0` on, as a copy's destination. -/
abbrev dstRow (off : Fin 1 → ℕ) (inb : ∀ a, off a + S12800.size a ≤ S52428800.size a) : Memref sig .scVector .hbm S12800 .f32 :=
  outV.slice (Rect.unit (s := S52428800) off S12800.size inb) (fun _ => rfl)

/-! ## What the rows hold -/

/-- The copy's source reads row `off 1` of `Mt`. -/
theorem read_srcRow (off : Fin 3 → ℕ) (inb : ∀ a, off a + S100x1x128.size a ≤ S100x4096x128.size a) (b : ℕ) (hoff : off = ![0, b, 0])
    (mt : S100x4096x128.Idx → Elt F .f32) : (srcRow off inb).view.read (Elt F) mt = inRow mt b := by
  subst hoff
  funext j
  rw [View.read_apply]
  refine (cast_eq _ _).trans ?_
  unfold inRow
  have hj0 : (j 0).val < 100 := (j 0).isLt
  have hj1 : (j 1).val < 128 := (j 1).isLt
  let y : S100x1x128.Idx := fun a => ⟨(![(j 0).val, 0, (j 1).val] : Fin 3 → ℕ) a, by
    fin_cases a
    · exact hj0
    · exact Nat.one_pos
    · exact hj1⟩
  have hy : Shape.reshapeEquiv (Shape.Squeezes.numel_eq squeezes_S100x1x128_S100x128) j = y := by
    apply Shape.reshapeEquiv_eq_of_rowMajor
    rw [Shape.rowMajor_val_three, Shape.rowMajor_val_two]
    show ((j 0).val * 1 + 0) * 128 + (j 1).val = (j 0).val * 128 + (j 1).val
    omega
  have he : (srcRow ![0, b, 0] inb).view.emb j = (Rect.unit (s := S100x4096x128) ![0, b, 0] S100x1x128.size inb).emb y := by
    rw [← hy]; rfl
  rw [he]
  congr 1
  apply eq_atMt
  · show 0 + 1 * (j 0).val = _; omega
  · show b + 1 * 0 = _; omega
  · show 0 + 1 * (j 1).val = _; omega

/-- The elements `a, …, b - 1` of the flat result. -/
def seg (a b : ℕ) : Finset S52428800.Idx := Finset.univ.filter fun x => a ≤ (x 0).val ∧ (x 0).val < b

theorem mem_seg {a b : ℕ} {x : S52428800.Idx} : x ∈ seg a b ↔ a ≤ (x 0).val ∧ (x 0).val < b := by simp [seg]

theorem seg_disjoint (a b c : ℕ) : Disjoint (seg a b) (seg b c) := by
  rw [Finset.disjoint_left]
  intro x h1 h2
  rw [mem_seg] at h1 h2; omega

theorem seg_union (a b c : ℕ) (hab : a ≤ b) (hbc : b ≤ c) : seg a b ∪ seg b c = seg a c := by
  ext x
  rw [Finset.mem_union, mem_seg, mem_seg, mem_seg]; omega

theorem seg_univ : seg 0 52428800 = Finset.univ := by
  ext x
  rw [mem_seg]
  have := (x 0).isLt
  exact ⟨fun _ => Finset.mem_univ _, fun _ => ⟨Nat.zero_le _, this⟩⟩

theorem dstRow_emb (off : Fin 1 → ℕ) (inb : ∀ a, off a + S12800.size a ≤ S52428800.size a) (y : S12800.Idx) :
    (((dstRow off inb).view.emb y : S52428800.Idx) 0).val = off 0 + (y 0).val := by
  show off 0 + 1 * (y 0).val = _
  omega

/-- The copy's destination is the 12800 elements from `off 0` on. -/
theorem set_dstRow (off : Fin 1 → ℕ) (inb : ∀ a, off a + S12800.size a ≤ S52428800.size a) :
    (dstRow off inb).view.set = seg (off 0) (off 0 + 12800) := by
  show ((View.whole main_v10_scv).slice _).set = _
  rw [View.set_slice_whole]
  ext x
  refine Rect.mem_set_unit.trans ?_
  rw [mem_seg]
  constructor
  · intro h; exact h 0
  · intro h a; obtain rfl : a = (0 : Fin 1) := Subsingleton.elim (α := Fin 1) _ _; exact h

/-- Result row `b` written at its place leaves there what the flat result holds. -/
theorem write_dstRow (off : Fin 1 → ℕ) (inb : ∀ a, off a + S12800.size a ≤ S52428800.size a) (b : ℕ) (hoff : off 0 = 12800 * b)
    (mt : S100x4096x128.Idx → Elt F .f32) (pk : S6400.Idx → BitVec 32) (f : S52428800.Idx → Elt F .f32) (w : S12800.Idx → Elt F .f32)
    (hw : ∀ x, w x = gath mt pk b (x 0).val) :
    ∀ i ∈ (dstRow off inb).view.set, (dstRow off inb).view.write (Elt F) f w Finset.univ i = flatOut mt pk i := by
  intro i hi
  obtain ⟨y, -, rfl⟩ := Finset.mem_map.mp hi
  rw [View.write_emb_of_mem _ _ (Finset.mem_univ _)]
  refine (cast_eq _ _).trans ?_
  have hy : (y 0).val < 12800 := (y 0).isLt
  have e := dstRow_emb off inb y
  rw [hw]
  show _ = gath mt pk ((((dstRow off inb).view.emb y : S52428800.Idx) 0).val / 12800) ((((dstRow off inb).view.emb y : S52428800.Idx) 0).val % 12800)
  rw [e, hoff]
  congr 1 <;> omega

end Cert.Proof.Gather

end
-- ==== Proof.Copies.lean ====
/-
  The copies of one task: a row of `Mt` fetched into a ring slot, a gathered row written out to its place of the result,
  and the waits for both, each stated once for every slot, semaphore and row.
-/
module

public import proofs.«01_k».proof.Proof.Base

@[expose] public section

noncomputable section

namespace Cert.Proof.Gather

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ
local notation "EC" => (countersEmb : UEmb Counters (MT nD τ sig (HIx 1) (Elt F) ℕ UU ℕ))

variable (d : Dev nD) (L : grid0.Coords)

/-! ## What a buffer holds, and what the task owes -/

/-- The whole buffer behind `m` is the task's, and reads as `row` through `m`. -/
def Has {sp : Space} {s : Shape} {e : EltTy} (m : Memref sig .scVector sp s e) (row : s.Idx → Elt F e) : sProp 𝕄 :=
  iprop(∃ f, ⌜m.view.read (Elt F) f = row⌝ ∗ m.view.loc (thr d L) ↦{fullShare} f)

/-- The whole buffer behind `m` is the task's, at some contents. -/
def Any {sp : Space} {s : Shape} {e : EltTy} (m : Memref sig .scVector sp s e) : sProp 𝕄 :=
  iprop(∃ f, m.view.loc (thr d L) ↦{fullShare} f)

omit [FloatOps F] in
theorem Has.any {sp : Space} {s : Shape} {e : EltTy} {m : Memref sig .scVector sp s e} {row : s.Idx → Elt F e} :
    Has d L m row ⊢ Any d L m := by
  unfold Has Any
  iintro ⟨%f, -, H⟩
  iexists f; iexact H

/-- The task's debts are the launch's, `O`, and the waits it has made beyond `W` are its own copies'. -/
def Owe (O : CellTallies nD τ sig (HIx 1)) (W : Waits sig (HIx 1)) : sProp 𝕄 :=
  iprop(∃ W', ⌜∀ p ∈ W', p ∈ W ∨ p.2 = none⌝ ∗ owes (thr d L) O W')

/-! ## A wait for one of the task's own copies -/

/-- Waiting for a copy in flight on `sem` hands over what the copy delivers and the semaphore, back at zero. -/
theorem wait_own {sp sp' : Space} {s s' : Shape} {e e' : EltTy} {O : CellTallies nD τ sig (HIx 1)} {W : Waits sig (HIx 1)}
    {sem : DmaSem sig} {srcw : Memref sig .scVector sp' s' e'} {dstw : Memref sig .scVector sp s e} {N : ℕ}
    {hsrc : srcw.view.WordExact} {hdst : dstw.view.WordExact} (hN : dstw.view.dmaCredit = N) {R : sProp 𝕄} {α : Type}
    {k : PUnit → Prog (TpuEff nD τ sig (Elt F) Λ₀ (thr d L).2) α} {Q : α → sProp 𝕄} :
    iprop(Flight EC (thr d L) (.dma sem) none N R ∗ Owe d L O W ∗ MayWaits (thr d L) none O)
      ⊢ iprop((iprop(R ∗ semVal (thr d L, .dma sem) 0 ∗ Owe d L O W) -∗ wp frame (wpE (defs₀ (F := F)) 𝒱₀ (thr d L) none) Set.univ (k ⟨⟩) Q)
          -∗ wp frame (wpE (defs₀ (F := F)) 𝒱₀ (thr d L) none) Set.univ (.op (.waitDma2 sem srcw dstw hsrc hdst) k) Q) := by
  unfold Owe
  iintro ⟨HF, ⟨%W', %hW', HO⟩, HM⟩ Hk
  iapply (wp_waitLocalO EC 𝒱₀ (thr d L) none none hN (O := O) (W := W')) $$ [HF HO HM]
  · isplitl [HF]; · iexact HF
    isplitl [HO]; · iexact HO
    iapply (MayWaits.elim (SemLoc.dma sem)) $$ HM
  iintro ⟨HR, Hs, HO⟩
  iapply Hk
  isplitl [HR]; · iexact HR
  isplitl [Hs]; · iexact Hs
  iexists _
  isplitr
  rotate_left
  · iexact HO
  ipureintro
  intro p hp
  rcases Finset.mem_insert.mp hp with h | h
  · exact .inr (by rw [h])
  · exact hW' p h

/-! ## Fetching a row of `Mt` -/

/-- Row `b` of `Mt` is on its way into the buffer behind `m`: the copy will deliver the row there and give back the part
    of `Mt` it reads; the rest of the read share of `Mt` is at hand. -/
def InFlight (q : PosShare TreeShare) (mt : S100x4096x128.Idx → Elt F .f32) (m : Memref sig .scVector .vmem S100x128 .f32) (sem : DmaSem sig) (b : ℕ) : sProp 𝕄 :=
  iprop(∃ I : Finset S100x4096x128.Idx,
    Flight EC (thr d L) (.dma sem) none m.view.dmaCredit iprop(Has d L m (inRow mt b) ∗ (mtLoc d ↦[I]{q} mt)) ∗ (mtLoc d ↦[Finset.univ \ I]{q} mt))

/-- Starting the fetch of row `b`. -/
theorem fetch_issue {q : PosShare TreeShare} {mt : S100x4096x128.Idx → Elt F .f32} {m : Memref sig .scVector .vmem S100x128 .f32} {sem : DmaSem sig}
    {off : Fin 3 → ℕ} {inb : ∀ a, off a + S100x1x128.size a ≤ S100x4096x128.size a} (b : ℕ) (hoff : off = ![0, b, 0])
    {hsrc : (srcRow off inb).view.WordExact} {hdst : m.view.WordExact}
    {hsem : DmaTarget.Typed (nD := nD) .hbm (.dma sem) (DmaTarget.here m : DmaTarget nD τ sig (thr d L).2 .vmem S100x128 .f32)}
    {α : Type} {k : PUnit → Prog (TpuEff nD τ sig (Elt F) Λ₀ (thr d L).2) α} {Q : α → sProp 𝕄} :
    iprop((mtLoc d ↦{q} mt) ∗ Any d L m ∗ semVal (thr d L, .dma sem) 0)
      ⊢ iprop((InFlight d L q mt m sem b -∗ wp frame (wpE (defs₀ (F := F)) 𝒱₀ (thr d L) none) Set.univ (k ⟨⟩) Q)
          -∗ wp frame (wpE (defs₀ (F := F)) 𝒱₀ (thr d L) none) Set.univ (.op (TpuEff.enqueueDma (srcRow off inb) (.here m) (.dma sem) hsrc hdst hsem) k) Q) := by
  unfold Any
  iintro ⟨Hmt, ⟨%f, Hm⟩, Hs⟩ Hk
  ihave Hmt' := (pointsTo_split_subset (Finset.subset_univ ((srcRow off inb).view.set))).1 $$ Hmt
  icases Hmt' with ⟨Hrow, Hrest⟩
  iapply (wp_dmaLocal EC 𝒱₀ (thr d L) none (src := srcRow off inb) (dst := m) (q := q) (fs := mt) (fd := f) (Sd := Finset.univ)
    none m.view.dmaCredit rfl (m.view.dmaCredit_pos (by decide)) (Finset.subset_univ _)) $$ [Hrow Hm Hs]
  · isplitl [Hrow]; · iexact Hrow
    isplitl [Hm]; · iexact Hm
    iexact Hs
  iintro HF
  iapply Hk
  unfold InFlight
  iexists (srcRow off inb).view.set
  isplitl [HF]
  · iapply (Flight_mono EC (thr d L) ?_) $$ HF
    iintro ⟨Hd, Hsrc⟩
    isplitl [Hd]
    · unfold Has
      iexists _
      isplitr
      rotate_left
      · iexact Hd
      ipureintro
      rw [View.read_write_univ]
      exact read_srcRow off inb b hoff mt
    · iexact Hsrc
  · iexact Hrest

/-- Waiting for the fetch of row `b`: the slot's buffer holds the row. -/
theorem fetch_wait {O : CellTallies nD τ sig (HIx 1)} {W : Waits sig (HIx 1)} {q : PosShare TreeShare} {mt : S100x4096x128.Idx → Elt F .f32}
    {m : Memref sig .scVector .vmem S100x128 .f32} {sem : DmaSem sig} {b : ℕ} {sp' : Space} {s' : Shape} {e' : EltTy} {srcw : Memref sig .scVector sp' s' e'}
    {hsrc : srcw.view.WordExact} {hdst : m.view.WordExact} {α : Type}
    {k : PUnit → Prog (TpuEff nD τ sig (Elt F) Λ₀ (thr d L).2) α} {Q : α → sProp 𝕄} :
    iprop(InFlight d L q mt m sem b ∗ Owe d L O W ∗ MayWaits (thr d L) none O)
      ⊢ iprop((iprop(Has d L m (inRow mt b) ∗ (mtLoc d ↦{q} mt) ∗ semVal (thr d L, .dma sem) 0 ∗ Owe d L O W)
              -∗ wp frame (wpE (defs₀ (F := F)) 𝒱₀ (thr d L) none) Set.univ (k ⟨⟩) Q)
          -∗ wp frame (wpE (defs₀ (F := F)) 𝒱₀ (thr d L) none) Set.univ (.op (.waitDma2 sem srcw m hsrc hdst) k) Q) := by
  unfold InFlight
  iintro ⟨⟨%I, HF, Hrest⟩, HO, HM⟩ Hk
  iapply (wait_own d L (O := O) (W := W) rfl) $$ [HF HO HM]
  · isplitl [HF]; · iexact HF
    isplitl [HO]; · iexact HO
    iexact HM
  iintro ⟨⟨Hm, Hrow⟩, Hs, HO⟩
  iapply Hk
  isplitl [Hm]; · iexact Hm
  isplitl [Hrow Hrest]
  · iapply (pointsTo_split_subset (Finset.subset_univ I)).2
    isplitl [Hrow]; · iexact Hrow
    iexact Hrest
  isplitl [Hs]; · iexact Hs
  iexact HO

/-! ## Writing a gathered row out -/

/-- The 12800 elements of result row `b` at `f`. -/
abbrev rowAt (b : ℕ) (f : S52428800.Idx → Elt F .f32) : sProp 𝕄 := outLoc d ↦[seg (12800 * b) (12800 * b + 12800)]{fullShare} f

/-- Result row `b` is on its way from the buffer behind `m` to its place. -/
def OutFlight (mt : S100x4096x128.Idx → Elt F .f32) (pk : S6400.Idx → BitVec 32) (m : Memref sig .scVector .vmem S12800 .f32) (sem : DmaSem sig) (b : ℕ) : sProp 𝕄 :=
  Flight EC (thr d L) (.dma sem) none m.view.dmaCredit iprop(rowAt d b (flatOut mt pk) ∗ Any d L m)

/-- Starting the write of result row `b` from a buffer that holds it. -/
theorem write_issue {mt : S100x4096x128.Idx → Elt F .f32} {pk : S6400.Idx → BitVec 32} {f0 : S52428800.Idx → Elt F .f32}
    {m : Memref sig .scVector .vmem S12800 .f32} (hm : m.view.set = Finset.univ) {sem : DmaSem sig}
    {off : Fin 1 → ℕ} {inb : ∀ a, off a + S12800.size a ≤ S52428800.size a} (b : ℕ) (hoff : off 0 = 12800 * b)
    {hsrc : m.view.WordExact} {hdst : (dstRow off inb).view.WordExact}
    {hsem : DmaTarget.Typed (nD := nD) .vmem (.dma sem) (DmaTarget.here (dstRow off inb) : DmaTarget nD τ sig (thr d L).2 .hbm S12800 .f32)}
    {α : Type} {k : PUnit → Prog (TpuEff nD τ sig (Elt F) Λ₀ (thr d L).2) α} {Q : α → sProp 𝕄} :
    iprop(Has d L m (fun x => gath mt pk b (x 0).val) ∗ rowAt d b f0 ∗ semVal (thr d L, .dma sem) 0)
      ⊢ iprop((OutFlight d L mt pk m sem b -∗ wp frame (wpE (defs₀ (F := F)) 𝒱₀ (thr d L) none) Set.univ (k ⟨⟩) Q)
          -∗ wp frame (wpE (defs₀ (F := F)) 𝒱₀ (thr d L) none) Set.univ (.op (TpuEff.enqueueDma m (.here (dstRow off inb)) (.dma sem) hsrc hdst hsem) k) Q) := by
  unfold Has
  iintro ⟨⟨%f, %hf, Hm⟩, Hrow, Hs⟩ Hk
  have hset : (dstRow off inb).view.set = seg (12800 * b) (12800 * b + 12800) := by rw [set_dstRow, hoff]
  iapply (wp_dmaLocal EC 𝒱₀ (thr d L) none (src := m) (dst := dstRow off inb) (q := fullShare) (fs := f) (fd := f0) (Sd := (dstRow off inb).view.set)
    none m.view.dmaCredit rfl (m.view.dmaCredit_pos (by decide)) (Finset.Subset.refl _)) $$ [Hrow Hm Hs]
  · isplitl [Hm]; · rw [hm]; iexact Hm
    isplitl [Hrow]; · rw [hset]; iexact Hrow
    iexact Hs
  iintro HF
  iapply Hk
  unfold OutFlight
  iapply (Flight_mono EC (thr d L) ?_) $$ HF
  iintro ⟨Hd, Hsrc⟩
  isplitl [Hd]
  · iapply (Entails.of_eq (by rw [pointsTo_congr (write_dstRow off inb b hoff mt pk f0 _ (fun x => congrFun hf x)), hset] :
      ((dstRow off inb).view.loc (thr d L) ↦[(dstRow off inb).view.set]{fullShare}
          (dstRow off inb).view.write (Elt F) f0 (m.view.read (Elt F) f) Finset.univ : sProp 𝕄) = rowAt d b (flatOut mt pk))) $$ Hd
  · unfold Any
    iexists f
    rw [hm]
    iexact Hsrc

/-- Waiting for the write of result row `b`: the row is in its place, the buffer free again. -/
theorem write_wait {O : CellTallies nD τ sig (HIx 1)} {W : Waits sig (HIx 1)} {mt : S100x4096x128.Idx → Elt F .f32} {pk : S6400.Idx → BitVec 32}
    {m : Memref sig .scVector .vmem S12800 .f32} {sem : DmaSem sig} {b : ℕ}
    {off : Fin 1 → ℕ} {inb : ∀ a, off a + S12800.size a ≤ S52428800.size a} {hsrc : m.view.WordExact} {hdst : (dstRow off inb).view.WordExact} {α : Type}
    {k : PUnit → Prog (TpuEff nD τ sig (Elt F) Λ₀ (thr d L).2) α} {Q : α → sProp 𝕄} :
    iprop(OutFlight d L mt pk m sem b ∗ Owe d L O W ∗ MayWaits (thr d L) none O)
      ⊢ iprop((iprop(rowAt d b (flatOut mt pk) ∗ Any d L m ∗ semVal (thr d L, .dma sem) 0 ∗ Owe d L O W)
              -∗ wp frame (wpE (defs₀ (F := F)) 𝒱₀ (thr d L) none) Set.univ (k ⟨⟩) Q)
          -∗ wp frame (wpE (defs₀ (F := F)) 𝒱₀ (thr d L) none) Set.univ (.op (.waitDma2 sem m (dstRow off inb) hsrc hdst) k) Q) := by
  unfold OutFlight
  iintro ⟨HF, HO, HM⟩ Hk
  iapply (wait_own d L (O := O) (W := W) rfl) $$ [HF HO HM]
  · isplitl [HF]; · iexact HF
    isplitl [HO]; · iexact HO
    iexact HM
  iintro ⟨⟨Hrow, Hm⟩, Hs, HO⟩
  iapply Hk
  isplitl [Hrow]; · iexact Hrow
  isplitl [Hm]; · iexact Hm
  isplitl [Hs]; · iexact Hs
  iexact HO

end Cert.Proof.Gather

end
-- ==== Proof.Steps.lean ====
/-
  The gather loop of one trip: sixteen words of the packed list at a time, the thirty-two elements they name taken from
  two rows of `Mt` and stored into two result rows. Stated once for any ring slots; both of the kernel's loops are it.
-/
module

public import proofs.«01_k».proof.Proof.Copies

@[expose] public section

noncomputable section

namespace Cert.Proof.Gather

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ
local notation "EC" => (countersEmb : UEmb Counters (MT nD τ sig (HIx 1) (Elt F) ℕ UU ℕ))

variable (d : Dev nD) (L : grid0.Coords)

/-! ## The loop's memory steps -/

/-- The first `n` elements of the buffer behind `m` are those of `row`. -/
def Upto (m : Memref sig .scVector .vmem S12800 .f32) (row : ℕ → Elt F .f32) (n : ℕ) : sProp 𝕄 :=
  iprop(∃ f, ⌜∀ x : S12800.Idx, (x 0).val < n → m.view.read (Elt F) f x = row (x 0).val⌝ ∗ m.view.loc (thr d L) ↦{fullShare} f)

omit [FloatOps F] in
/-- Of a buffer at any contents, the first none are right, -/
theorem Upto.zero {m : Memref sig .scVector .vmem S12800 .f32} {row : ℕ → Elt F .f32} : Any d L m ⊢ Upto d L m row 0 := by
  unfold Any Upto
  iintro ⟨%f, H⟩
  iexists f
  isplitr
  · ipureintro; intro x hx; exact absurd hx (Nat.not_lt_zero _)
  iexact H

omit [FloatOps F] in
/-- and a buffer of which all 12800 are right holds the row. -/
theorem Upto.full {m : Memref sig .scVector .vmem S12800 .f32} {row : ℕ → Elt F .f32} :
    Upto d L m row 12800 ⊢ Has d L m (fun x => row (x 0).val) := by
  unfold Has Upto
  iintro ⟨%f, %h, H⟩
  iexists f
  isplitr
  · ipureintro; funext x; exact h x (x 0).isLt
  iexact H

/-- Loading sixteen words of the packed list. -/
theorem load_words {p : Memref sig .scVector .vmem S6400 .i32} {pk : S6400.Idx → BitVec 32} {off : Fin 1 → ℕ}
    {inb : ∀ a, off a + S16.size a ≤ S6400.size a} (o : ℕ) (hoff : off = ![o]) {hl : p.view.LoadsAt (Rect.unit (s := S6400) off S16.size inb).toLoadRect}
    {α : Type} {k : Vec F S16 .i32 → Prog (TpuEff nD τ sig (Elt F) Λ₀ (thr d L).2) α} {Q : α → sProp 𝕄} :
    Has d L p pk
      ⊢ iprop((∀ v : Vec F S16 .i32, ⌜∀ x : S16.Idx, v x = pk (at6400 (o + (x 0).val))⌝ -∗ Has d L p pk
            -∗ wp frame (wpE (defs₀ (F := F)) 𝒱₀ (thr d L) none) Set.univ (k v) Q)
          -∗ wp frame (wpE (defs₀ (F := F)) 𝒱₀ (thr d L) none) Set.univ
              (.op (.load p (Rect.unit (s := S6400) off S16.size inb).toLoadRect hl) k) Q) := by
  subst hoff
  unfold Has
  iintro ⟨%f, %hf, H⟩ Hk
  iapply (wp_load 𝒱₀ (thr d L) none Set.univ (m := p) (S := Finset.univ) (Finset.subset_univ _)) $$ H; iintro H
  iapply Hk $$ [] [H]
  · ipureintro
    intro x
    rw [View.readAt_apply, hf]
    congr 1
    apply eq_at6400
    show o + 1 * (x 0).val = _; omega
  · iexists f
    isplitr; · ipureintro; exact hf
    iexact H

/-- A gather out of a row held in a ring slot. -/
theorem gather_step {a : Memref sig .scVector .vmem S100x128 .f32} {row : S100x128.Idx → Elt F .f32} {idxs : Fin 2 → IVec S16 32}
    {h : ∀ i x, (idxs i x).toNat < S100x128.size i} {hl : a.view.Loads} {α : Type}
    {k : Vec F S16 .f32 → Prog (TpuEff nD τ sig (Elt F) Λ₀ (thr d L).2) α} {Q : α → sProp 𝕄} :
    Has d L a row
      ⊢ iprop((Has d L a row -∗ wp frame (wpE (defs₀ (F := F)) 𝒱₀ (thr d L) none) Set.univ (k (loadIdx (s := S100x128) row idxs h)) Q)
          -∗ wp frame (wpE (defs₀ (F := F)) 𝒱₀ (thr d L) none) Set.univ (SparseCore.vectorLoadIdx a idxs h hl >>= k) Q) := by
  unfold Has
  iintro ⟨%f, %hf, H⟩ Hk
  have hr : (a.access (.whole S100x128)).read (Elt F) f = row := by
    rw [← hf]
    funext x
    show _root_.cast _ (f (a.view.emb ((Rect.whole S100x128).emb x))) = _root_.cast _ (f (a.view.emb x))
    rw [Rect.emb_whole_apply]
  iapply (SparseCore.wp_vectorLoadIdx 𝒱₀ (thr d L) none Set.univ (base := a) (S := Finset.univ) (q := fullShare) (f := f) (Finset.subset_univ _)) $$ H; iintro H
  rw [hr]
  iapply Hk
  iexists f
  isplitr; · ipureintro; exact hf
  iexact H

/-- A load out of a result buffer, whose value the loop does not use. -/
theorem load_unused {m : Memref sig .scVector .vmem S12800 .f32} {row : ℕ → Elt F .f32} {n : ℕ} {r : LoadRect S12800} {hl : m.view.LoadsAt r} {α : Type}
    {k : (r.shape.Idx → Elt F .f32) → Prog (TpuEff nD τ sig (Elt F) Λ₀ (thr d L).2) α} {Q : α → sProp 𝕄} :
    Upto d L m row n
      ⊢ iprop((∀ v, Upto d L m row n -∗ wp frame (wpE (defs₀ (F := F)) 𝒱₀ (thr d L) none) Set.univ (k v) Q)
          -∗ wp frame (wpE (defs₀ (F := F)) 𝒱₀ (thr d L) none) Set.univ (.op (.load m r hl) k) Q) := by
  unfold Upto
  iintro ⟨%f, %hf, H⟩ Hk
  iapply (wp_load 𝒱₀ (thr d L) none Set.univ (m := m) (S := Finset.univ) (Finset.subset_univ _)) $$ H; iintro H
  iapply Hk
  iexists f
  isplitr; · ipureintro; exact hf
  iexact H

/-- Storing the next sixteen elements of the row. -/
theorem store_step {m : Memref sig .scVector .vmem S12800 .f32} {row : ℕ → Elt F .f32} {off : Fin 1 → ℕ}
    {inb : ∀ a, off a + S16.size a ≤ S12800.size a} (n : ℕ) (hoff : off = ![n]) {w : Vec F S16 .f32} (hw : ∀ x : S16.Idx, w x = row (n + (x 0).val))
    {hx : (m.access (Rect.unit (s := S12800) off S16.size inb)).Stores Finset.univ}
    {hm : Finset.univ = Finset.univ ∨ ∀ a, (Rect.unit (s := S12800) off S16.size inb).stride a = 1} {α : Type}
    {k : PUnit → Prog (TpuEff nD τ sig (Elt F) Λ₀ (thr d L).2) α} {Q : α → sProp 𝕄} :
    Upto d L m row n
      ⊢ iprop((Upto d L m row (n + 16) -∗ wp frame (wpE (defs₀ (F := F)) 𝒱₀ (thr d L) none) Set.univ (k ⟨⟩) Q)
          -∗ wp frame (wpE (defs₀ (F := F)) 𝒱₀ (thr d L) none) Set.univ
              (.op (.store m (Rect.unit (s := S12800) off S16.size inb) w Finset.univ hx hm) k) Q) := by
  subst hoff
  unfold Upto
  iintro ⟨%f, %hf, H⟩ Hk
  iapply (wp_store_writes₀ 𝒱₀ (thr d L) none Set.univ (m := m) (r := Rect.unit (s := S12800) ![n] S16.size inb) (S := Finset.univ) (Finset.subset_univ _)) $$ H
  iintro H
  iapply Hk
  iexists _
  isplitr
  rotate_left
  · iexact H
  ipureintro
  intro y hy
  by_cases hlt : (y 0).val < n
  · rw [View.read_writes_cons_miss_of_axis m.view f _ [] y 0 n 16 rfl rfl rfl (.inl hlt)]
    exact hf y hlt
  · let x : S16.Idx := fun a => ⟨(y 0).val - n, by
      obtain rfl : a = (0 : Fin 1) := Subsingleton.elim (α := Fin 1) _ _
      show (y 0).val - n < 16
      omega⟩
    rw [View.read_writes_cons_hit_of_coords m.view f (Rect.unit (s := S12800) ![n] S16.size inb) w [] x y ?_]
    · refine (hw x).trans ?_
      congr 1
      show n + ((y 0).val - n) = _
      omega
    · intro a
      obtain rfl : a = (0 : Fin 1) := Subsingleton.elim (α := Fin 1) _ _
      show (y 0).val = n + 1 * ((y 0).val - n)
      omega

end Cert.Proof.Gather

end
-- ==== Proof.Inner.lean ====
/-
  The gather loop: 400 trips, each taking sixteen words of the packed list and storing the thirty-two elements they name
  from each of two rows of `Mt`. Stated once for any four slots; both of the kernel's loops are it.
-/
module

public import proofs.«01_k».proof.Proof.Steps

@[expose] public section

noncomputable section

namespace Cert.Proof.Gather

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ
local notation "EC" => (countersEmb : UEmb Counters (MT nD τ sig (HIx 1) (Elt F) ℕ UU ℕ))

variable (d : Dev nD) (L : grid0.Coords)

/-- What the loop holds before trip `t`: the packed list, the two rows, and the first `32 t` elements of both result rows. -/
def InnerAt (mt : S100x4096x128.Idx → Elt F .f32) (pk : S6400.Idx → BitVec 32) (p : Memref sig .scVector .vmem S6400 .i32)
    (a b : Memref sig .scVector .vmem S100x128 .f32) (oa ob : Memref sig .scVector .vmem S12800 .f32) (ra rb t : ℕ) : sProp 𝕄 :=
  iprop(Has d L p pk ∗ Has d L a (inRow mt ra) ∗ Has d L b (inRow mt rb) ∗ Upto d L oa (gath mt pk ra) (32 * t) ∗ Upto d L ob (gath mt pk rb) (32 * t))

/-- Sixteen elements gathered from each of the two rows and stored, at index vectors naming indices `n`, …, `n + 15`. -/
theorem pair_step {mt : S100x4096x128.Idx → Elt F .f32} {pk : S6400.Idx → BitVec 32} (hpk : InRange pk)
    {a b : Memref sig .scVector .vmem S100x128 .f32} {oa ob : Memref sig .scVector .vmem S12800 .f32} {ra rb : ℕ}
    (n : ℕ) (hn : n + 16 ≤ 12800) {off : Fin 1 → ℕ} (hoff : off = ![n]) {inb : ∀ a, off a + S16.size a ≤ S12800.size a} {u v : IVec S16 32}
    (hu : ∀ x : S16.Idx, (u x).toNat = (pix pk (n + (x 0).val)).toNat / 128) (hv : ∀ x : S16.Idx, (v x).toNat = (pix pk (n + (x 0).val)).toNat % 128)
    {h h' : ∀ i x, ((![u, v] : Fin 2 → IVec S16 32) i x).toNat < S100x128.size i} {hla : a.view.Loads} {hlb : b.view.Loads}
    {hra : oa.view.LoadsAt (Rect.unit (s := S12800) off S16.size inb).toLoadRect} {hrb : ob.view.LoadsAt (Rect.unit (s := S12800) off S16.size inb).toLoadRect}
    {hwa : (oa.access (Rect.unit (s := S12800) off S16.size inb)).Stores Finset.univ} {hwb : (ob.access (Rect.unit (s := S12800) off S16.size inb)).Stores Finset.univ}
    {hma hmb : Finset.univ = Finset.univ ∨ ∀ a, (Rect.unit (s := S12800) off S16.size inb).stride a = 1} {α : Type}
    {k : Prog (TpuEff nD τ sig (Elt F) Λ₀ (thr d L).2) α} {Q : α → sProp 𝕄} :
    iprop(Has d L a (inRow mt ra) ∗ Has d L b (inRow mt rb) ∗ Upto d L oa (gath mt pk ra) n ∗ Upto d L ob (gath mt pk rb) n)
      ⊢ iprop((iprop(Has d L a (inRow mt ra) ∗ Has d L b (inRow mt rb) ∗ Upto d L oa (gath mt pk ra) (n + 16) ∗ Upto d L ob (gath mt pk rb) (n + 16))
            -∗ wp frame (wpE (defs₀ (F := F)) 𝒱₀ (thr d L) none) Set.univ k Q)
          -∗ wp frame (wpE (defs₀ (F := F)) 𝒱₀ (thr d L) none) Set.univ
              (SparseCore.vectorLoadIdx a ![u, v] h hla >>= fun g : Vec F S16 .f32 =>
                .op (.load oa (Rect.unit (s := S12800) off S16.size inb).toLoadRect hra) fun _ =>
                .op (.store oa (Rect.unit (s := S12800) off S16.size inb) g Finset.univ hwa hma) fun _ =>
                (SparseCore.vectorLoadIdx b ![u, v] h' hlb >>= fun g' : Vec F S16 .f32 =>
                .op (.load ob (Rect.unit (s := S12800) off S16.size inb).toLoadRect hrb) fun _ =>
                .op (.store ob (Rect.unit (s := S12800) off S16.size inb) g' Finset.univ hwb hmb) fun _ => k)) Q) := by
  iintro ⟨Ha, Hb, Hoa, Hob⟩ Hk
  iapply (gather_step d L) $$ Ha; iintro Ha
  iapply (load_unused d L) $$ Hoa; iintro %_ Hoa
  iapply (store_step d L n hoff (loadIdx_inRow mt pk hpk ra n hn u v hu hv h)) $$ Hoa; iintro Hoa
  iapply (gather_step d L) $$ Hb; iintro Hb
  iapply (load_unused d L) $$ Hob; iintro %_ Hob
  iapply (store_step d L n hoff (loadIdx_inRow mt pk hpk rb n hn u v hu hv h')) $$ Hob; iintro Hob
  iapply Hk
  isplitl [Ha]; · iexact Ha
  isplitl [Hb]; · iexact Hb
  isplitl [Hoa]; · iexact Hoa
  iexact Hob

theorem trips2 : k0_t2_loop.trips = 400 := by decide +kernel
theorem trips3 : k0_t3_loop.trips = 400 := by decide +kernel

section Loops
variable
  {arg2 : Memref sig .scVector .hbm S100x4096x128 .f32} {harg2 : arg2.IsWhole}
  {arg3 : Memref sig .scVector .hbm S6400 .i32} {harg3 : arg3.IsWhole}
  {arg4 : Memref sig .scVector .hbm S52428800 .f32} {harg4 : arg4.IsWhole}
  {arg5 : Memref sig .scVector .vmem S6400 .i32} {harg5 : arg5.IsWhole}
  {arg6 : Memref sig .scVector .vmem S100x128 .f32} {harg6 : arg6.IsWhole}
  {arg7 : Memref sig .scVector .vmem S100x128 .f32} {harg7 : arg7.IsWhole}
  {arg8 : Memref sig .scVector .vmem S100x128 .f32} {harg8 : arg8.IsWhole}
  {arg9 : Memref sig .scVector .vmem S100x128 .f32} {harg9 : arg9.IsWhole}
  {arg10 : Memref sig .scVector .vmem S12800 .f32} {harg10 : arg10.IsWhole}
  {arg11 : Memref sig .scVector .vmem S12800 .f32} {harg11 : arg11.IsWhole}
  {arg12 : Memref sig .scVector .vmem S12800 .f32} {harg12 : arg12.IsWhole}
  {arg13 : Memref sig .scVector .vmem S12800 .f32} {harg13 : arg13.IsWhole}
  {arg14 arg15 : DmaSems sig S4} {v64_r0 : DmaSems sig S_}

/-- One trip of the loop over slots 0 and 1. -/
theorem inner_trip {mt : S100x4096x128.Idx → Elt F .f32} {pk : S6400.Idx → BitVec 32} (hpk : InRange pk) {ra rb : ℕ} {v2 c0 c1 : BitVec 32}
    {t1 : Fin k0_t1_loop.trips} (t : Fin k0_t2_loop.trips) (acc : Unit) :
    InnerAt d L mt pk arg5 arg6 arg7 arg10 arg11 ra rb t.val
      ⊢ wp frame (wpE (defs₀ (F := F)) 𝒱₀ (thr d L) none) Set.univ
          (k0_t2_body L arg2 harg2 arg3 harg3 arg4 harg4 arg5 harg5 arg6 harg6 arg7 harg7 arg8 harg8 arg9 harg9 arg10 harg10 arg11 harg11 arg12 harg12 arg13 harg13 arg14 arg15 v64_r0 v2 c0 c1 t1 t acc)
          fun _ => InnerAt d L mt pk arg5 arg6 arg7 arg10 arg11 ra rb (t.val + 1) := by
  have ht : t.val < 400 := lt_of_lt_of_eq t.isLt trips2
  unfold k0_t2_body InnerAt
  simp only [Prog.lift, Prog.bind_op, Prog.bind_ret, Prog.pure_eq_ret]
  iintro ⟨Hp, Ha, Hb, Hoa, Hob⟩
  iapply (load_words d L (16 * t.val) (k0_off5_eq t)) $$ Hp
  iintro %v %hv Hp
  have hlo : ∀ x : S16.Idx, lo (v x) = pix pk (32 * t.val + (x 0).val) := fun x => by rw [hv, pix_lo _ _ _ (x 0).isLt]
  have hhi : ∀ x : S16.Idx, hi (v x) = pix pk (32 * t.val + 16 + (x 0).val) := fun x => by rw [hv, pix_hi _ _ _ (x 0).isLt]
  have u1 : ∀ x : S16.Idx, (k0_pay3 v x).toNat = (pix pk (32 * t.val + (x 0).val)).toNat / 128 := fun x => by rw [← hlo]; exact (pay_lo v x).1
  have u2 : ∀ x : S16.Idx, (k0_pay4 v x).toNat = (pix pk (32 * t.val + (x 0).val)).toNat % 128 := fun x => by rw [← hlo]; exact (pay_lo v x).2
  have w1 : ∀ x : S16.Idx, (k0_pay5 v x).toNat = (pix pk (32 * t.val + 16 + (x 0).val)).toNat / 128 := fun x => by rw [← hhi]; exact (pay_hi v x).1
  have w2 : ∀ x : S16.Idx, (k0_pay6 v x).toNat = (pix pk (32 * t.val + 16 + (x 0).val)).toNat % 128 := fun x => by rw [← hhi]; exact (pay_hi v x).2
  rw [wp_assume_of _ _ _ _ (check pk hpk (32 * t.val) (by omega) _ _ u1 u2)]
  iapply (pair_step d L hpk (32 * t.val) (by omega) (k0_off6_eq t) u1 u2) $$ [Ha Hb Hoa Hob]
  · isplitl [Ha]; · iexact Ha
    isplitl [Hb]; · iexact Hb
    isplitl [Hoa]; · iexact Hoa
    iexact Hob
  iintro ⟨Ha, Hb, Hoa, Hob⟩
  rw [wp_assume_of _ _ _ _ (show k0_chk2 _ _ from check pk hpk (32 * t.val + 16) (by omega) _ _ w1 w2)]
  iapply (pair_step d L hpk (32 * t.val + 16) (by omega) (k0_off7_eq t) w1 w2) $$ [Ha Hb Hoa Hob]
  · isplitl [Ha]; · iexact Ha
    isplitl [Hb]; · iexact Hb
    isplitl [Hoa]; · iexact Hoa
    iexact Hob
  iintro ⟨Ha, Hb, Hoa, Hob⟩
  rw [wp_ret]; imodintro
  rw [show 32 * (t.val + 1) = 32 * t.val + 16 + 16 by omega]
  isplitl [Hp]; · iexact Hp
  isplitl [Ha]; · iexact Ha
  isplitl [Hb]; · iexact Hb
  isplitl [Hoa]; · iexact Hoa
  iexact Hob

/-- A trip of the loop over slots 2 and 3 is a trip of the loop over slots 0 and 1, at those slots. -/
theorem t3_eq_t2 {v2 a16 v65 : BitVec 32} {t1 : Fin k0_t1_loop.trips} (t : Fin k0_t3_loop.trips) (acc : Unit) :
    k0_t3_body (F := F) L arg2 harg2 arg3 harg3 arg4 harg4 arg5 harg5 arg6 harg6 arg7 harg7 arg8 harg8 arg9 harg9 arg10 harg10 arg11 harg11 arg12 harg12 arg13 harg13 arg14 arg15 v64_r0 v2 t1 a16 v65 t acc
      = k0_t2_body (F := F) L arg2 harg2 arg3 harg3 arg4 harg4 arg5 harg5 arg8 harg8 arg9 harg9 arg8 harg8 arg9 harg9 arg12 harg12 arg13 harg13 arg12 harg12 arg13 harg13 arg14 arg15 v64_r0 v2 a16 v65 t1 t acc := rfl

/-- The loop over slots 0 and 1: from two rows of `Mt`, the two gathered rows. -/
theorem inner_loop01 {mt : S100x4096x128.Idx → Elt F .f32} {pk : S6400.Idx → BitVec 32} (hpk : InRange pk) (ra rb : ℕ) {v2 c0 c1 : BitVec 32}
    {t1 : Fin k0_t1_loop.trips} {α : Type} {kk : Unit → Prog (TpuEff nD τ sig (Elt F) Λ₀ (thr d L).2) α} {Q : α → sProp 𝕄} :
    iprop(Has d L arg5 pk ∗ Has d L arg6 (inRow mt ra) ∗ Has d L arg7 (inRow mt rb) ∗ Any d L arg10 ∗ Any d L arg11)
      ⊢ iprop((iprop(Has d L arg5 pk ∗ Has d L arg6 (inRow mt ra) ∗ Has d L arg7 (inRow mt rb)
              ∗ Has d L arg10 (fun x => gath mt pk ra (x 0).val) ∗ Has d L arg11 (fun x => gath mt pk rb (x 0).val))
            -∗ wp frame (wpE (defs₀ (F := F)) 𝒱₀ (thr d L) none) Set.univ (kk ⟨⟩) Q)
          -∗ wp frame (wpE (defs₀ (F := F)) 𝒱₀ (thr d L) none) Set.univ
              (Scf.Loop.for k0_t2_loop k0_t2_ok ⟨⟩ (k0_t2_body L arg2 harg2 arg3 harg3 arg4 harg4 arg5 harg5 arg6 harg6 arg7 harg7 arg8 harg8 arg9 harg9 arg10 harg10 arg11 harg11 arg12 harg12 arg13 harg13 arg14 arg15 v64_r0 v2 c0 c1 t1) >>= kk) Q) := by
  iintro ⟨Hp, Ha, Hb, Hoa, Hob⟩ Hk
  iapply (Scf.wp_for_bind _ _ _ _ _ _ k0_t2_ok ⟨⟩ _ (fun t _ => InnerAt d L mt pk arg5 arg6 arg7 arg10 arg11 ra rb t)
    (fun t acc => inner_trip d L hpk t acc)) $$ [Hp Ha Hb Hoa Hob]
  · unfold InnerAt
    isplitl [Hp]; · iexact Hp
    isplitl [Ha]; · iexact Ha
    isplitl [Hb]; · iexact Hb
    isplitl [Hoa]
    · iapply (Upto.zero d L); iexact Hoa
    · iapply (Upto.zero d L); iexact Hob
  iintro %_ H
  unfold InnerAt
  icases H with ⟨Hp, Ha, Hb, Hoa, Hob⟩
  iapply Hk
  isplitl [Hp]; · iexact Hp
  isplitl [Ha]; · iexact Ha
  isplitl [Hb]; · iexact Hb
  isplitl [Hoa]
  · iapply (Upto.full d L); iexact Hoa
  · iapply (Upto.full d L); iexact Hob

/-- The loop over slots 2 and 3: the same. -/
theorem inner_loop23 {mt : S100x4096x128.Idx → Elt F .f32} {pk : S6400.Idx → BitVec 32} (hpk : InRange pk) (ra rb : ℕ) {v2 a16 v65 : BitVec 32}
    {t1 : Fin k0_t1_loop.trips} {α : Type} {kk : Unit → Prog (TpuEff nD τ sig (Elt F) Λ₀ (thr d L).2) α} {Q : α → sProp 𝕄} :
    iprop(Has d L arg5 pk ∗ Has d L arg8 (inRow mt ra) ∗ Has d L arg9 (inRow mt rb) ∗ Any d L arg12 ∗ Any d L arg13)
      ⊢ iprop((iprop(Has d L arg5 pk ∗ Has d L arg8 (inRow mt ra) ∗ Has d L arg9 (inRow mt rb)
              ∗ Has d L arg12 (fun x => gath mt pk ra (x 0).val) ∗ Has d L arg13 (fun x => gath mt pk rb (x 0).val))
            -∗ wp frame (wpE (defs₀ (F := F)) 𝒱₀ (thr d L) none) Set.univ (kk ⟨⟩) Q)
          -∗ wp frame (wpE (defs₀ (F := F)) 𝒱₀ (thr d L) none) Set.univ
              (Scf.Loop.for k0_t3_loop k0_t3_ok ⟨⟩ (k0_t3_body L arg2 harg2 arg3 harg3 arg4 harg4 arg5 harg5 arg6 harg6 arg7 harg7 arg8 harg8 arg9 harg9 arg10 harg10 arg11 harg11 arg12 harg12 arg13 harg13 arg14 arg15 v64_r0 v2 t1 a16 v65) >>= kk) Q) :=
  inner_loop01 d L (arg6 := arg8) (arg7 := arg9) (arg10 := arg12) (arg11 := arg13) (harg6 := harg8) (harg7 := harg9) (harg10 := harg12) (harg11 := harg13)
    (arg8 := arg8) (arg9 := arg9) (arg12 := arg12) (arg13 := arg13) (harg8 := harg8) (harg9 := harg9) (harg12 := harg12) (harg13 := harg13)
    (harg2 := harg2) (harg3 := harg3) (harg4 := harg4) (harg5 := harg5) (arg14 := arg14) (arg15 := arg15) (v64_r0 := v64_r0)
    hpk ra rb (v2 := v2) (c0 := a16) (c1 := v65) (t1 := t1)

end Loops

end Cert.Proof.Gather

end
-- ==== Proof.Ring.lean ====
/-
  The ring of four slots: what each slot's input and output side hold between trips, how far the task's part of the
  result has come, and the guarded copies and waits of a pair of slots.
-/
module

public import proofs.«01_k».proof.Proof.Inner

@[expose] public section

noncomputable section

namespace Cert.Proof.Gather

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ
local notation "EC" => (countersEmb : UEmb Counters (MT nD τ sig (HIx 1) (Elt F) ℕ UU ℕ))

variable (d : Dev nD) (L : grid0.Coords)

/-! ## The slots and the result, as a task's row counter goes -/

/-- A slot's input side when the next row it takes is the task's `n`-th: that row is on its way, or past the last row
    the slot is idle. -/
def InSt (q : PosShare TreeShare) (mt : S100x4096x128.Idx → Elt F .f32) (m : Memref sig .scVector .vmem S100x128 .f32) (sem : DmaSem sig) (n : ℕ) : sProp 𝕄 :=
  if n < 128 then InFlight d L q mt m sem (base L + n) else iprop((mtLoc d ↦{q} mt) ∗ Any d L m ∗ semVal (thr d L, .dma sem) 0)

/-- A slot's output side when the next row it writes is the task's `n`-th: the write of the row four before is on its
    way, or before the first trip the slot is idle. -/
def OutSt (mt : S100x4096x128.Idx → Elt F .f32) (pk : S6400.Idx → BitVec 32) (m : Memref sig .scVector .vmem S12800 .f32) (sem : DmaSem sig) (n : ℕ) : sProp 𝕄 :=
  if 4 ≤ n then OutFlight d L mt pk m sem (base L + (n - 4)) else iprop(Any d L m ∗ semVal (thr d L, .dma sem) 0)

/-- The task's first `n` result rows are in their places, -/
def Done (mt : S100x4096x128.Idx → Elt F .f32) (pk : S6400.Idx → BitVec 32) (n : ℕ) : sProp 𝕄 :=
  outLoc d ↦[seg (12800 * base L) (12800 * (base L + n))]{fullShare} flatOut mt pk

/-- and its rows from the `n`-th on are as they were. -/
def Todo (f0 : S52428800.Idx → Elt F .f32) (n : ℕ) : sProp 𝕄 :=
  outLoc d ↦[seg (12800 * (base L + n)) (12800 * (base L + 128))]{fullShare} f0

omit [FloatOps F] in
/-- Elements in a row of the flat result, joined or parted at a place between. -/
theorem seg_parts {a b c : ℕ} (hab : a ≤ b) (hbc : b ≤ c) (f : S52428800.Idx → Elt F .f32) :
    iprop((outLoc d ↦[seg a b]{fullShare} f) ∗ (outLoc d ↦[seg b c]{fullShare} f)) ⊣⊢ (outLoc d ↦[seg a c]{fullShare} f : sProp 𝕄) := by
  rw [← seg_union a b c hab hbc]
  exact (pointsTo_union (seg_disjoint a b c)).symm

omit [FloatOps F] in
/-- One more row done. -/
theorem Done.next {mt : S100x4096x128.Idx → Elt F .f32} {pk : S6400.Idx → BitVec 32} (n : ℕ) :
    iprop(Done d L mt pk n ∗ rowAt d (base L + n) (flatOut mt pk)) ⊢ Done d L mt pk (n + 1) := by
  unfold Done rowAt
  refine (seg_parts d (by omega) (by omega) _).1.trans (Entails.of_eq ?_)
  congr 2

omit [FloatOps F] in
/-- The next row to do, and those after it. -/
theorem Todo.next {f0 : S52428800.Idx → Elt F .f32} (n : ℕ) (hn : n < 128) :
    Todo d L f0 n ⊢ iprop(rowAt d (base L + n) f0 ∗ Todo d L f0 (n + 1)) := by
  unfold Todo rowAt
  have e : 12800 * (base L + (n + 1)) = 12800 * (base L + n) + 12800 := by omega
  rw [e]
  exact (seg_parts d (by omega) (by omega) _).2

/-- Waiting for a slot's write, when there is one. -/
theorem out_wait {O : CellTallies nD τ sig (HIx 1)} {W : Waits sig (HIx 1)} {mt : S100x4096x128.Idx → Elt F .f32} {pk : S6400.Idx → BitVec 32}
    {m : Memref sig .scVector .vmem S12800 .f32} {sem : DmaSem sig} {n : ℕ} (hn : 4 ≤ n)
    {off : Fin 1 → ℕ} {inb : ∀ a, off a + S12800.size a ≤ S52428800.size a} {hsrc : m.view.WordExact} {hdst : (dstRow off inb).view.WordExact} {α : Type}
    {k : PUnit → Prog (TpuEff nD τ sig (Elt F) Λ₀ (thr d L).2) α} {Q : α → sProp 𝕄} :
    iprop(OutSt d L mt pk m sem n ∗ Done d L mt pk (n - 4) ∗ Owe d L O W ∗ MayWaits (thr d L) none O)
      ⊢ iprop((iprop(Any d L m ∗ semVal (thr d L, .dma sem) 0 ∗ Done d L mt pk (n + 1 - 4) ∗ Owe d L O W)
              -∗ wp frame (wpE (defs₀ (F := F)) 𝒱₀ (thr d L) none) Set.univ (k ⟨⟩) Q)
          -∗ wp frame (wpE (defs₀ (F := F)) 𝒱₀ (thr d L) none) Set.univ (.op (.waitDma2 sem m (dstRow off inb) hsrc hdst) k) Q) := by
  unfold OutSt
  rw [if_pos hn]
  iintro ⟨HF, HD, HO, HM⟩ Hk
  iapply (write_wait d L (O := O) (W := W)) $$ [HF HO HM]
  · isplitl [HF]; · iexact HF
    isplitl [HO]; · iexact HO
    iexact HM
  iintro ⟨Hrow, Hm, Hs, HO⟩
  iapply Hk
  isplitl [Hm]; · iexact Hm
  isplitl [Hs]; · iexact Hs
  isplitl [HD Hrow]
  · rw [show n + 1 - 4 = n - 4 + 1 by omega]
    iapply (Done.next d L (n - 4))
    isplitl [HD]; · iexact HD
    iexact Hrow
  iexact HO

/-- The guarded waits of a pair of slots for the writes of the trip before. -/
theorem pair_wait {O : CellTallies nD τ sig (HIx 1)} {W : Waits sig (HIx 1)} {mt : S100x4096x128.Idx → Elt F .f32} {pk : S6400.Idx → BitVec 32}
    {ma mb : Memref sig .scVector .vmem S12800 .f32} {sa sb : DmaSem sig} (n : ℕ) {c : Prop} [Decidable c] (hc : c → 4 ≤ n) (hc' : ¬c → n + 2 ≤ 4)
    {offa offb : c → Fin 1 → ℕ} {inba : ∀ h a, offa h a + S12800.size a ≤ S52428800.size a} {inbb : ∀ h a, offb h a + S12800.size a ≤ S52428800.size a}
    {hsa : c → ma.view.WordExact} {hsb : c → mb.view.WordExact}
    {hda : ∀ h, (dstRow (offa h) (inba h)).view.WordExact} {hdb : ∀ h, (dstRow (offb h) (inbb h)).view.WordExact} {α : Type}
    {k : Prog (TpuEff nD τ sig (Elt F) Λ₀ (thr d L).2) α} {Q : α → sProp 𝕄} :
    iprop(OutSt d L mt pk ma sa n ∗ OutSt d L mt pk mb sb (n + 1) ∗ Done d L mt pk (n - 4) ∗ Owe d L O W ∗ MayWaits (thr d L) none O)
      ⊢ iprop((iprop(Any d L ma ∗ semVal (thr d L, .dma sa) 0 ∗ Any d L mb ∗ semVal (thr d L, .dma sb) 0 ∗ Done d L mt pk (n + 2 - 4) ∗ Owe d L O W)
              -∗ wp frame (wpE (defs₀ (F := F)) 𝒱₀ (thr d L) none) Set.univ k Q)
          -∗ wp frame (wpE (defs₀ (F := F)) 𝒱₀ (thr d L) none) Set.univ
              (if h : c then .op (.waitDma2 sa ma (dstRow (offa h) (inba h)) (hsa h) (hda h)) fun _ =>
                  .op (.waitDma2 sb mb (dstRow (offb h) (inbb h)) (hsb h) (hdb h)) fun _ => k
                else k) Q) := by
  by_cases h : c
  · rw [dif_pos h]
    iintro ⟨Ha, Hb, HD, HO, #HM⟩ Hk
    iapply (out_wait d L (O := O) (W := W) (hc h)) $$ [Ha HD HO]
    · isplitl [Ha]; · iexact Ha
      isplitl [HD]; · iexact HD
      isplitl [HO]; · iexact HO
      iexact HM
    iintro ⟨Ha, Hsa, HD, HO⟩
    iapply (out_wait d L (O := O) (W := W) (n := n + 1) (Nat.le_succ_of_le (hc h))) $$ [Hb HD HO]
    · isplitl [Hb]; · iexact Hb
      isplitl [HD]; · iexact HD
      isplitl [HO]; · iexact HO
      iexact HM
    iintro ⟨Hb, Hsb, HD, HO⟩
    iapply Hk
    isplitl [Ha]; · iexact Ha
    isplitl [Hsa]; · iexact Hsa
    isplitl [Hb]; · iexact Hb
    isplitl [Hsb]; · iexact Hsb
    isplitl [HD]; · iexact HD
    iexact HO
  · rw [dif_neg h]
    have := hc' h
    unfold OutSt
    rw [if_neg (by omega), if_neg (by omega), show n - 4 = 0 by omega, show n + 2 - 4 = 0 by omega]
    iintro ⟨⟨Ha, Hsa⟩, ⟨Hb, Hsb⟩, HD, HO, -⟩ Hk
    iapply Hk
    isplitl [Ha]; · iexact Ha
    isplitl [Hsa]; · iexact Hsa
    isplitl [Hb]; · iexact Hb
    isplitl [Hsb]; · iexact Hsb
    isplitl [HD]; · iexact HD
    iexact HO

/-- Starting the fetch of the task's `n`-th row into a slot. -/
theorem in_issue {q : PosShare TreeShare} {mt : S100x4096x128.Idx → Elt F .f32} {m : Memref sig .scVector .vmem S100x128 .f32} {sem : DmaSem sig}
    {off : Fin 3 → ℕ} {inb : ∀ a, off a + S100x1x128.size a ≤ S100x4096x128.size a} (n : ℕ) (hn : n < 128) (hoff : off = ![0, base L + n, 0])
    {hsrc : (srcRow off inb).view.WordExact} {hdst : m.view.WordExact}
    {hsem : DmaTarget.Typed (nD := nD) .hbm (.dma sem) (DmaTarget.here m : DmaTarget nD τ sig (thr d L).2 .vmem S100x128 .f32)}
    {α : Type} {k : PUnit → Prog (TpuEff nD τ sig (Elt F) Λ₀ (thr d L).2) α} {Q : α → sProp 𝕄} :
    iprop((mtLoc d ↦{q} mt) ∗ Any d L m ∗ semVal (thr d L, .dma sem) 0)
      ⊢ iprop((InSt d L q mt m sem n -∗ wp frame (wpE (defs₀ (F := F)) 𝒱₀ (thr d L) none) Set.univ (k ⟨⟩) Q)
          -∗ wp frame (wpE (defs₀ (F := F)) 𝒱₀ (thr d L) none) Set.univ (.op (TpuEff.enqueueDma (srcRow off inb) (.here m) (.dma sem) hsrc hdst hsem) k) Q) := by
  unfold InSt
  rw [if_pos hn]
  exact fetch_issue d L (base L + n) hoff

/-- The guarded fetches of a pair of slots for the next trip. -/
theorem pair_fetch {qa qb : PosShare TreeShare} {mt : S100x4096x128.Idx → Elt F .f32} {ma mb : Memref sig .scVector .vmem S100x128 .f32} {sa sb : DmaSem sig}
    (n : ℕ) {c : Prop} [Decidable c] (hc : c → n + 1 < 128) (hc' : ¬c → 128 ≤ n)
    {offa offb : c → Fin 3 → ℕ} {inba : ∀ h a, offa h a + S100x1x128.size a ≤ S100x4096x128.size a} {inbb : ∀ h a, offb h a + S100x1x128.size a ≤ S100x4096x128.size a}
    (hoa : ∀ h, offa h = ![0, base L + n, 0]) (hob : ∀ h, offb h = ![0, base L + (n + 1), 0])
    {hsa : ∀ h, (srcRow (offa h) (inba h)).view.WordExact} {hsb : ∀ h, (srcRow (offb h) (inbb h)).view.WordExact} {hda : c → ma.view.WordExact} {hdb : c → mb.view.WordExact}
    {hta : c → DmaTarget.Typed (nD := nD) .hbm (.dma sa) (DmaTarget.here ma : DmaTarget nD τ sig (thr d L).2 .vmem S100x128 .f32)}
    {htb : c → DmaTarget.Typed (nD := nD) .hbm (.dma sb) (DmaTarget.here mb : DmaTarget nD τ sig (thr d L).2 .vmem S100x128 .f32)}
    {α : Type} {k : Prog (TpuEff nD τ sig (Elt F) Λ₀ (thr d L).2) α} {Q : α → sProp 𝕄} :
    iprop(((mtLoc d ↦{qa} mt) ∗ Any d L ma ∗ semVal (thr d L, .dma sa) 0) ∗ ((mtLoc d ↦{qb} mt) ∗ Any d L mb ∗ semVal (thr d L, .dma sb) 0))
      ⊢ iprop((iprop(InSt d L qa mt ma sa n ∗ InSt d L qb mt mb sb (n + 1)) -∗ wp frame (wpE (defs₀ (F := F)) 𝒱₀ (thr d L) none) Set.univ k Q)
          -∗ wp frame (wpE (defs₀ (F := F)) 𝒱₀ (thr d L) none) Set.univ
              (if h : c then .op (TpuEff.enqueueDma (srcRow (offa h) (inba h)) (.here ma) (.dma sa) (hsa h) (hda h) (hta h)) fun _ =>
                  .op (TpuEff.enqueueDma (srcRow (offb h) (inbb h)) (.here mb) (.dma sb) (hsb h) (hdb h) (htb h)) fun _ => k
                else k) Q) := by
  by_cases h : c
  · rw [dif_pos h]
    iintro ⟨Ha, Hb⟩ Hk
    iapply (in_issue d L n (Nat.lt_of_succ_lt (hc h)) (hoa h)) $$ Ha
    iintro Ha
    iapply (in_issue d L (n + 1) (hc h) (hob h)) $$ Hb
    iintro Hb
    iapply Hk
    isplitl [Ha]; · iexact Ha
    iexact Hb
  · rw [dif_neg h]
    have := hc' h
    unfold InSt
    rw [if_neg (by omega), if_neg (by omega)]
    iintro ⟨Ha, Hb⟩ Hk
    iapply Hk
    isplitl [Ha]; · iexact Ha
    iexact Hb

/-- Waiting for the fetch of the task's `n`-th row. -/
theorem in_wait {O : CellTallies nD τ sig (HIx 1)} {W : Waits sig (HIx 1)} {q : PosShare TreeShare} {mt : S100x4096x128.Idx → Elt F .f32}
    {m : Memref sig .scVector .vmem S100x128 .f32} {sem : DmaSem sig} (n : ℕ) (hn : n < 128) {sp' : Space} {s' : Shape} {e' : EltTy} {srcw : Memref sig .scVector sp' s' e'}
    {hsrc : srcw.view.WordExact} {hdst : m.view.WordExact} {α : Type}
    {k : PUnit → Prog (TpuEff nD τ sig (Elt F) Λ₀ (thr d L).2) α} {Q : α → sProp 𝕄} :
    iprop(InSt d L q mt m sem n ∗ Owe d L O W ∗ MayWaits (thr d L) none O)
      ⊢ iprop((iprop(Has d L m (inRow mt (base L + n)) ∗ (mtLoc d ↦{q} mt) ∗ semVal (thr d L, .dma sem) 0 ∗ Owe d L O W)
              -∗ wp frame (wpE (defs₀ (F := F)) 𝒱₀ (thr d L) none) Set.univ (k ⟨⟩) Q)
          -∗ wp frame (wpE (defs₀ (F := F)) 𝒱₀ (thr d L) none) Set.univ (.op (.waitDma2 sem srcw m hsrc hdst) k) Q) := by
  unfold InSt
  rw [if_pos hn]
  exact fetch_wait d L

/-- Starting the write of the task's `n`-th row from a slot that holds it. -/
theorem out_issue {mt : S100x4096x128.Idx → Elt F .f32} {pk : S6400.Idx → BitVec 32} {f0 : S52428800.Idx → Elt F .f32}
    {m : Memref sig .scVector .vmem S12800 .f32} (hm : m.IsWhole) {sem : DmaSem sig}
    {off : Fin 1 → ℕ} {inb : ∀ a, off a + S12800.size a ≤ S52428800.size a} (n : ℕ) (hn : n < 128) (hoff : off 0 = 12800 * (base L + n))
    {hsrc : m.view.WordExact} {hdst : (dstRow off inb).view.WordExact}
    {hsem : DmaTarget.Typed (nD := nD) .vmem (.dma sem) (DmaTarget.here (dstRow off inb) : DmaTarget nD τ sig (thr d L).2 .hbm S12800 .f32)}
    {α : Type} {k : PUnit → Prog (TpuEff nD τ sig (Elt F) Λ₀ (thr d L).2) α} {Q : α → sProp 𝕄} :
    iprop(Has d L m (fun x => gath mt pk (base L + n) (x 0).val) ∗ Todo d L f0 n ∗ semVal (thr d L, .dma sem) 0)
      ⊢ iprop((iprop(OutSt d L mt pk m sem (n + 4) ∗ Todo d L f0 (n + 1)) -∗ wp frame (wpE (defs₀ (F := F)) 𝒱₀ (thr d L) none) Set.univ (k ⟨⟩) Q)
          -∗ wp frame (wpE (defs₀ (F := F)) 𝒱₀ (thr d L) none) Set.univ (.op (TpuEff.enqueueDma m (.here (dstRow off inb)) (.dma sem) hsrc hdst hsem) k) Q) := by
  unfold OutSt
  rw [if_pos (by omega), Nat.add_sub_cancel]
  iintro ⟨Hm, HT, Hs⟩ Hk
  ihave HT' := (Todo.next d L n hn) $$ HT
  icases HT' with ⟨Hrow, HT⟩
  iapply (write_issue d L hm.set_eq_univ (base L + n) hoff) $$ [Hm Hrow Hs]
  · isplitl [Hm]; · iexact Hm
    isplitl [Hrow]; · iexact Hrow
    iexact Hs
  iintro HF
  iapply Hk
  isplitl [HF]; · iexact HF
  iexact HT

end Cert.Proof.Gather

end
-- ==== Proof.Trip.lean ====
/-
  One trip of the outer loop: a pair of rows through slots 0 and 1, and a pair through slots 2 and 3.
-/
module

public import proofs.«01_k».proof.Proof.Ring

@[expose] public section

noncomputable section

namespace Cert.Proof.Gather

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ
local notation "EC" => (countersEmb : UEmb Counters (MT nD τ sig (HIx 1) (Elt F) ℕ UU ℕ))

variable (d : Dev nD) (L : grid0.Coords)

section Trips
variable
  {harg2 : mtV.IsWhole} {harg3 : pkV.IsWhole} {harg4 : outV.IsWhole}
  {arg5 : Memref sig .scVector .vmem S6400 .i32} {harg5 : arg5.IsWhole}
  {arg6 : Memref sig .scVector .vmem S100x128 .f32} {harg6 : arg6.IsWhole}
  {arg7 : Memref sig .scVector .vmem S100x128 .f32} {harg7 : arg7.IsWhole}
  {arg8 : Memref sig .scVector .vmem S100x128 .f32} {harg8 : arg8.IsWhole}
  {arg9 : Memref sig .scVector .vmem S100x128 .f32} {harg9 : arg9.IsWhole}
  {arg10 : Memref sig .scVector .vmem S12800 .f32} {harg10 : arg10.IsWhole}
  {arg11 : Memref sig .scVector .vmem S12800 .f32} {harg11 : arg11.IsWhole}
  {arg12 : Memref sig .scVector .vmem S12800 .f32} {harg12 : arg12.IsWhole}
  {arg13 : Memref sig .scVector .vmem S12800 .f32} {harg13 : arg13.IsWhole}
  {arg14 arg15 : DmaSems sig S4} {v64_r0 : DmaSems sig S_}

/-- The semaphores of the four slots, out of their array. -/
abbrev sem0 (a : DmaSems sig S4) : DmaSem sig := ((a.slice (Rect.unit (s := S4) ![0] S1.size inb_S4_S1_0)).squeeze S_ squeezes_S1_S_).sem
@[inherit_doc sem0] abbrev sem1 (a : DmaSems sig S4) : DmaSem sig := ((a.slice (Rect.unit (s := S4) ![1] S1.size inb_S4_S1_1)).squeeze S_ squeezes_S1_S_).sem
@[inherit_doc sem0] abbrev sem2 (a : DmaSems sig S4) : DmaSem sig := ((a.slice (Rect.unit (s := S4) ![2] S1.size inb_S4_S1_2)).squeeze S_ squeezes_S1_S_).sem
@[inherit_doc sem0] abbrev sem3 (a : DmaSems sig S4) : DmaSem sig := ((a.slice (Rect.unit (s := S4) ![3] S1.size inb_S4_S1_3)).squeeze S_ squeezes_S1_S_).sem

/-- A pair of slots, the next rows they take being the task's `n`-th and the one after. -/
def Pair (qa qb : PosShare TreeShare) (mt : S100x4096x128.Idx → Elt F .f32) (pk : S6400.Idx → BitVec 32)
    (ia ib : Memref sig .scVector .vmem S100x128 .f32) (oa ob : Memref sig .scVector .vmem S12800 .f32) (sa sb ta tb : DmaSem sig) (n : ℕ) : sProp 𝕄 :=
  iprop(InSt d L qa mt ia sa n ∗ InSt d L qb mt ib sb (n + 1) ∗ OutSt d L mt pk oa ta n ∗ OutSt d L mt pk ob tb (n + 1))

variable (arg5 arg6 arg7 arg8 arg9 arg10 arg11 arg12 arg13 arg14 arg15) in
/-- What the outer loop keeps before its trip `t`: the packed permutation, the four slots, and the result so far. -/
def OuterAt (O : CellTallies nD τ sig (HIx 1)) (W : Waits sig (HIx 1)) (q : Fin 4 → PosShare TreeShare) (mt : S100x4096x128.Idx → Elt F .f32) (pk : S6400.Idx → BitVec 32)
    (f0 : S52428800.Idx → Elt F .f32) (t : ℕ) : sProp 𝕄 :=
  iprop(Has d L arg5 pk
    ∗ Pair d L (q 0) (q 1) mt pk arg6 arg7 arg10 arg11 (sem0 arg14) (sem1 arg14) (sem0 arg15) (sem1 arg15) (4 * t)
    ∗ Pair d L (q 2) (q 3) mt pk arg8 arg9 arg12 arg13 (sem2 arg14) (sem3 arg14) (sem2 arg15) (sem3 arg15) (4 * t + 2)
    ∗ Done d L mt pk (4 * t - 4) ∗ Todo d L f0 (4 * t) ∗ Owe d L O W)

/-- An input side between its row's use and the next fetch, -/
def Idle (q : PosShare TreeShare) (mt : S100x4096x128.Idx → Elt F .f32) (m : Memref sig .scVector .vmem S100x128 .f32) (sem : DmaSem sig) : sProp 𝕄 :=
  iprop((mtLoc d ↦{q} mt) ∗ Any d L m ∗ semVal (thr d L, .dma sem) 0)

/-- and an output side that holds the task's `n`-th row, gathered. -/
def Ready (mt : S100x4096x128.Idx → Elt F .f32) (pk : S6400.Idx → BitVec 32) (m : Memref sig .scVector .vmem S12800 .f32) (sem : DmaSem sig) (n : ℕ) : sProp 𝕄 :=
  iprop(Has d L m (fun x => gath mt pk (base L + n) (x 0).val) ∗ semVal (thr d L, .dma sem) 0)

/-- The outer loop's trips, and its guards: there is a trip before, there is a trip after. -/
theorem trips1 : k0_t1_loop.trips = 32 := by decide +kernel
theorem cond1 : ∀ t : Fin k0_t1_loop.trips, k0_cond1 t = 1#1 ↔ 1 ≤ t.val := by decide +kernel
theorem cond2 : ∀ t : Fin k0_t1_loop.trips, k0_cond2 t = 1#1 ↔ t.val ≤ 30 := by decide +kernel
theorem cond3 : ∀ t : Fin k0_t1_loop.trips, k0_cond3 t = 1#1 ↔ 1 ≤ t.val := by decide +kernel
theorem cond4 : ∀ t : Fin k0_t1_loop.trips, k0_cond4 t = 1#1 ↔ t.val ≤ 30 := by decide +kernel

omit [FloatOps F] in
/-- Two offsets into `Mt` that name the same row. -/
theorem off_congr {a b : ℕ} (h : a = b) : (![0, a, 0] : Fin 3 → ℕ) = ![0, b, 0] := by rw [h]

/-- The trip's first part: the pair of rows in slots 0 and 1 comes in and is gathered, and the next pair's fetches
    start. -/
theorem part1 {O : CellTallies nD τ sig (HIx 1)} {W : Waits sig (HIx 1)} {q0 q1 : PosShare TreeShare} {mt : S100x4096x128.Idx → Elt F .f32} {pk : S6400.Idx → BitVec 32}
    (hpk : InRange pk) {v2 c0 c1 : BitVec 32} (t : Fin k0_t1_loop.trips) :
    iprop(MayWaits (thr d L) none O ∗ Has d L arg5 pk
        ∗ Pair d L q0 q1 mt pk arg6 arg7 arg10 arg11 (sem0 arg14) (sem1 arg14) (sem0 arg15) (sem1 arg15) (4 * t.val)
        ∗ Done d L mt pk (4 * t.val - 4) ∗ Owe d L O W)
      ⊢ wp frame (wpE (defs₀ (F := F)) 𝒱₀ (thr d L) none) Set.univ
          (k0_part1 L mtV harg2 pkV harg3 outV harg4 arg5 harg5 arg6 harg6 arg7 harg7 arg8 harg8 arg9 harg9 arg10 harg10 arg11 harg11 arg12 harg12 arg13 harg13 arg14 arg15 v64_r0 v2 c0 c1 t)
          fun _ => iprop(Has d L arg5 pk
            ∗ (InSt d L q0 mt arg6 (sem0 arg14) (4 * t.val + 4) ∗ InSt d L q1 mt arg7 (sem1 arg14) (4 * t.val + 4 + 1))
            ∗ Ready d L mt pk arg10 (sem0 arg15) (4 * t.val) ∗ Ready d L mt pk arg11 (sem1 arg15) (4 * t.val + 1)
            ∗ Done d L mt pk (4 * t.val + 2 - 4) ∗ Owe d L O W) := by
  have ht : t.val < 32 := lt_of_lt_of_eq t.isLt trips1
  have hc1 := cond1 t
  have hc2 := cond2 t
  rw [k0_part1_eq_skeleton]
  unfold k0_part1_skel Pair Ready
  simp only [Prog.lift, Prog.bind_op, Prog.bind_ret, Prog.pure_eq_ret]
  iintro ⟨#HM, Hp, ⟨Hia, Hib, Hoa, Hob⟩, HD, HO⟩
  iapply (in_wait d L (O := O) (W := W) (4 * t.val) (by omega)) $$ [Hia HO]
  · isplitl [Hia]; · iexact Hia
    isplitl [HO]; · iexact HO
    iexact HM
  iintro ⟨Hia, Hma, Hsa, HO⟩
  iapply (in_wait d L (O := O) (W := W) (4 * t.val + 1) (by omega)) $$ [Hib HO]
  · isplitl [Hib]; · iexact Hib
    isplitl [HO]; · iexact HO
    iexact HM
  iintro ⟨Hib, Hmb, Hsb, HO⟩
  iapply (pair_wait d L (O := O) (W := W) (4 * t.val) (fun h => by have := hc1.1 h; omega) (fun h => by have : ¬1 ≤ t.val := fun k => h (hc1.2 k); omega)) $$ [Hoa Hob HD HO]
  · isplitl [Hoa]; · iexact Hoa
    isplitl [Hob]; · iexact Hob
    isplitl [HD]; · iexact HD
    isplitl [HO]; · iexact HO
    iexact HM
  iintro ⟨Hoa, Hta, Hob, Htb, HD, HO⟩
  iapply (inner_loop01 d L hpk (base L + 4 * t.val) (base L + (4 * t.val + 1))) $$ [Hp Hia Hib Hoa Hob]
  · isplitl [Hp]; · iexact Hp
    isplitl [Hia]; · iexact Hia
    isplitl [Hib]; · iexact Hib
    isplitl [Hoa]; · iexact Hoa
    iexact Hob
  iintro ⟨Hp, Hia, Hib, Hoa, Hob⟩
  iapply (pair_fetch d L (4 * t.val + 4) (fun h => by have := hc2.1 h; omega) (fun h => by have : ¬t.val ≤ 30 := fun k => h (hc2.2 k); omega)
    (fun h => (k0_off8_eq L t 0).trans (off_congr (by unfold base; simp; omega)))
    (fun h => (k0_off8_eq L t 1).trans (off_congr (by unfold base; simp; omega)))) $$ [Hia Hma Hsa Hib Hmb Hsb]
  · isplitl [Hia Hma Hsa]
    · isplitl [Hma]; · iexact Hma
      isplitl [Hia]; · iapply (Has.any d L); iexact Hia
      iexact Hsa
    · isplitl [Hmb]; · iexact Hmb
      isplitl [Hib]; · iapply (Has.any d L); iexact Hib
      iexact Hsb
  iintro Hin
  rw [wp_ret]; imodintro
  isplitl [Hp]; · iexact Hp
  isplitl [Hin]; · iexact Hin
  isplitl [Hoa Hta]
  · isplitl [Hoa]; · iexact Hoa
    iexact Hta
  isplitl [Hob Htb]
  · isplitl [Hob]; · iexact Hob
    iexact Htb
  isplitl [HD]; · iexact HD
  iexact HO

/-- The trip's second part: the gathered pair of slots 0 and 1 goes out, and the pair of rows in slots 2 and 3 comes in
    and is gathered. -/
theorem part2 {O : CellTallies nD τ sig (HIx 1)} {W : Waits sig (HIx 1)} {q2 q3 : PosShare TreeShare} {mt : S100x4096x128.Idx → Elt F .f32} {pk : S6400.Idx → BitVec 32}
    (hpk : InRange pk) {f0 : S52428800.Idx → Elt F .f32} {v2 a16 v65 : BitVec 32} (t : Fin k0_t1_loop.trips) :
    iprop(MayWaits (thr d L) none O ∗ Has d L arg5 pk
        ∗ Ready d L mt pk arg10 (sem0 arg15) (4 * t.val) ∗ Ready d L mt pk arg11 (sem1 arg15) (4 * t.val + 1)
        ∗ Pair d L q2 q3 mt pk arg8 arg9 arg12 arg13 (sem2 arg14) (sem3 arg14) (sem2 arg15) (sem3 arg15) (4 * t.val + 2)
        ∗ Done d L mt pk (4 * t.val + 2 - 4) ∗ Todo d L f0 (4 * t.val) ∗ Owe d L O W)
      ⊢ wp frame (wpE (defs₀ (F := F)) 𝒱₀ (thr d L) none) Set.univ
          (k0_part2 L mtV harg2 pkV harg3 outV harg4 arg5 harg5 arg6 harg6 arg7 harg7 arg8 harg8 arg9 harg9 arg10 harg10 arg11 harg11 arg12 harg12 arg13 harg13 arg14 arg15 v64_r0 v2 t a16 v65)
          fun _ => iprop(Has d L arg5 pk
            ∗ OutSt d L mt pk arg10 (sem0 arg15) (4 * t.val + 4) ∗ OutSt d L mt pk arg11 (sem1 arg15) (4 * t.val + 1 + 4)
            ∗ Idle d L q2 mt arg8 (sem2 arg14) ∗ Idle d L q3 mt arg9 (sem3 arg14)
            ∗ Ready d L mt pk arg12 (sem2 arg15) (4 * t.val + 2) ∗ Ready d L mt pk arg13 (sem3 arg15) (4 * t.val + 2 + 1)
            ∗ Done d L mt pk (4 * t.val + 2 + 2 - 4) ∗ Todo d L f0 (4 * t.val + 1 + 1) ∗ Owe d L O W) := by
  have ht : t.val < 32 := lt_of_lt_of_eq t.isLt trips1
  have hc3 := cond3 t
  rw [k0_part2_eq_skeleton]
  unfold k0_part2_skel Pair Ready Idle
  simp only [Prog.lift, Prog.bind_op, Prog.bind_ret, Prog.pure_eq_ret]
  iintro ⟨#HM, Hp, ⟨Hra, Hta⟩, ⟨Hrb, Htb⟩, ⟨Hia, Hib, Hoa, Hob⟩, HD, HT, HO⟩
  iapply (out_issue d L harg10 (4 * t.val) (by omega) ((congrFun (k0_off9_eq L t 0) 0).trans (by unfold base; simp; omega))) $$ [Hra HT Hta]
  · isplitl [Hra]; · iexact Hra
    isplitl [HT]; · iexact HT
    iexact Hta
  iintro ⟨Hwa, HT⟩
  iapply (out_issue d L harg11 (4 * t.val + 1) (by omega) ((congrFun (k0_off10_eq L t 0) 0).trans (by unfold base; simp; omega))) $$ [Hrb HT Htb]
  · isplitl [Hrb]; · iexact Hrb
    isplitl [HT]; · iexact HT
    iexact Htb
  iintro ⟨Hwb, HT⟩
  iapply (in_wait d L (O := O) (W := W) (4 * t.val + 2) (by omega)) $$ [Hia HO]
  · isplitl [Hia]; · iexact Hia
    isplitl [HO]; · iexact HO
    iexact HM
  iintro ⟨Hia, Hma, Hsa, HO⟩
  iapply (in_wait d L (O := O) (W := W) (4 * t.val + 2 + 1) (by omega)) $$ [Hib HO]
  · isplitl [Hib]; · iexact Hib
    isplitl [HO]; · iexact HO
    iexact HM
  iintro ⟨Hib, Hmb, Hsb, HO⟩
  iapply (pair_wait d L (O := O) (W := W) (4 * t.val + 2) (fun h => by have := hc3.1 h; omega) (fun h => by have : ¬1 ≤ t.val := fun k => h (hc3.2 k); omega)) $$ [Hoa Hob HD HO]
  · isplitl [Hoa]; · iexact Hoa
    isplitl [Hob]; · iexact Hob
    isplitl [HD]; · iexact HD
    isplitl [HO]; · iexact HO
    iexact HM
  iintro ⟨Hoa, Hta, Hob, Htb, HD, HO⟩
  iapply (inner_loop23 d L hpk (base L + (4 * t.val + 2)) (base L + (4 * t.val + 2 + 1))) $$ [Hp Hia Hib Hoa Hob]
  · isplitl [Hp]; · iexact Hp
    isplitl [Hia]; · iexact Hia
    isplitl [Hib]; · iexact Hib
    isplitl [Hoa]; · iexact Hoa
    iexact Hob
  iintro ⟨Hp, Hia, Hib, Hoa, Hob⟩
  rw [wp_ret]; imodintro
  isplitl [Hp]; · iexact Hp
  isplitl [Hwa]; · iexact Hwa
  isplitl [Hwb]; · iexact Hwb
  isplitl [Hia Hma Hsa]
  · isplitl [Hma]; · iexact Hma
    isplitl [Hia]; · iapply (Has.any d L); iexact Hia
    iexact Hsa
  isplitl [Hib Hmb Hsb]
  · isplitl [Hmb]; · iexact Hmb
    isplitl [Hib]; · iapply (Has.any d L); iexact Hib
    iexact Hsb
  isplitl [Hoa Hta]
  · isplitl [Hoa]; · iexact Hoa
    iexact Hta
  isplitl [Hob Htb]
  · isplitl [Hob]; · iexact Hob
    iexact Htb
  isplitl [HD]; · iexact HD
  isplitl [HT]; · iexact HT
  iexact HO

/-- A part of the task's program and the rest, what the rest needs kept beside the part. -/
theorem wp_then {α β : Type} {p : Prog (TpuEff nD τ sig (Elt F) Λ₀ (thr d L).2) α} {k : α → Prog (TpuEff nD τ sig (Elt F) Λ₀ (thr d L).2) β}
    {P P' R : sProp 𝕄} {Q' : α → sProp 𝕄} {Q : β → sProp 𝕄} (hp : P' ⊢ wp frame (wpE (defs₀ (F := F)) 𝒱₀ (thr d L) none) Set.univ p Q')
    (hP : P ⊢ iprop(P' ∗ R)) (hk : ∀ a, iprop(Q' a ∗ R) ⊢ wp frame (wpE (defs₀ (F := F)) 𝒱₀ (thr d L) none) Set.univ (k a) Q) :
    P ⊢ wp frame (wpE (defs₀ (F := F)) 𝒱₀ (thr d L) none) Set.univ (p >>= k) Q := by
  rw [wp_bind]
  exact hP.trans ((sep_mono_left hp).trans ((wp_frame_r _ _ _).trans (wp_mono _ _ _ hk)))

/-- A trip of the outer loop: four rows on. -/
theorem trip {O : CellTallies nD τ sig (HIx 1)} {W : Waits sig (HIx 1)} {q : Fin 4 → PosShare TreeShare} {mt : S100x4096x128.Idx → Elt F .f32} {pk : S6400.Idx → BitVec 32}
    (hpk : InRange pk) {f0 : S52428800.Idx → Elt F .f32} {v2 : BitVec 32} (t : Fin k0_t1_loop.trips) (acc : Unit) :
    iprop(MayWaits (thr d L) none O ∗ OuterAt d L arg5 arg6 arg7 arg8 arg9 arg10 arg11 arg12 arg13 arg14 arg15 O W q mt pk f0 t.val)
      ⊢ wp frame (wpE (defs₀ (F := F)) 𝒱₀ (thr d L) none) Set.univ
          (k0_t1_body L mtV harg2 pkV harg3 outV harg4 arg5 harg5 arg6 harg6 arg7 harg7 arg8 harg8 arg9 harg9 arg10 harg10 arg11 harg11 arg12 harg12 arg13 harg13 arg14 arg15 v64_r0 v2 t acc)
          fun _ => iprop(MayWaits (thr d L) none O ∗ OuterAt d L arg5 arg6 arg7 arg8 arg9 arg10 arg11 arg12 arg13 arg14 arg15 O W q mt pk f0 (t.val + 1)) := by
  have ht : t.val < 32 := lt_of_lt_of_eq t.isLt trips1
  have hc4 := cond4 t
  unfold k0_t1_body OuterAt
  -- the first part, what the second needs kept beside it
  refine wp_then d L (part1 d L (O := O) (W := W) (q0 := q 0) (q1 := q 1) (mt := mt) hpk t) (R := iprop((MayWaits (thr d L) none O
      ∗ Pair d L (q 2) (q 3) mt pk arg8 arg9 arg12 arg13 (sem2 arg14) (sem3 arg14) (sem2 arg15) (sem3 arg15) (4 * t.val + 2)
      ∗ Todo d L f0 (4 * t.val)))) ?_ fun p => ?_
  · iintro ⟨#HM, Hp, H01, H23, HD, HT, HO⟩
    isplitl [Hp H01 HD HO]
    · isplitr; · iexact HM
      isplitl [Hp]; · iexact Hp
      isplitl [H01]; · iexact H01
      isplitl [HD]; · iexact HD
      iexact HO
    isplitr; · iexact HM
    isplitl [H23]; · iexact H23
    iexact HT
  -- the second, the first pair's next fetches kept beside it
  refine wp_then d L (part2 d L (O := O) (W := W) (q2 := q 2) (q3 := q 3) (mt := mt) (f0 := f0) hpk t) (R := iprop((MayWaits (thr d L) none O
      ∗ (InSt d L (q 0) mt arg6 (sem0 arg14) (4 * t.val + 4) ∗ InSt d L (q 1) mt arg7 (sem1 arg14) (4 * t.val + 4 + 1))))) ?_ fun p' => ?_
  · iintro ⟨⟨Hp, Hin, Hra, Hrb, HD, HO⟩, #HM, H23, HT⟩
    isplitl [Hp Hra Hrb HD HO H23 HT]
    · isplitr; · iexact HM
      isplitl [Hp]; · iexact Hp
      isplitl [Hra]; · iexact Hra
      isplitl [Hrb]; · iexact Hrb
      isplitl [H23]; · iexact H23
      isplitl [HD]; · iexact HD
      isplitl [HT]; · iexact HT
      iexact HO
    isplitr; · iexact HM
    iexact Hin
  -- the next fetches of slots 2 and 3, and the gathered pair's writes
  unfold Ready Idle Pair
  simp only [Prog.lift, Prog.bind_op, Prog.bind_ret, Prog.pure_eq_ret]
  iintro ⟨⟨Hp, Hwa, Hwb, Hia, Hib, ⟨Hra, Hta⟩, ⟨Hrb, Htb⟩, HD, HT, HO⟩, #HM, ⟨Hi0, Hi1⟩⟩
  iapply (pair_fetch d L (4 * t.val + 6) (fun h => by have := hc4.1 h; omega) (fun h => by have : ¬t.val ≤ 30 := fun k => h (hc4.2 k); omega)
    (fun h => (k0_off15_eq L t 0).trans (off_congr (by unfold base; simp; omega)))
    (fun h => (k0_off15_eq L t 1).trans (off_congr (by unfold base; simp; omega)))) $$ [Hia Hib]
  · isplitl [Hia]; · iexact Hia
    iexact Hib
  iintro ⟨Hi2, Hi3⟩
  iapply (out_issue d L harg12 (4 * t.val + 2) (by omega) ((congrFun (k0_off9_eq L t 1) 0).trans (by unfold base; simp; omega))) $$ [Hra HT Hta]
  · isplitl [Hra]; · iexact Hra
    isplitl [HT]; · iexact HT
    iexact Hta
  iintro ⟨Hwc, HT⟩
  iapply (out_issue d L harg13 (4 * t.val + 2 + 1) (by omega) ((congrFun (k0_off10_eq L t 1) 0).trans (by unfold base; simp; omega))) $$ [Hrb HT Htb]
  · isplitl [Hrb]; · iexact Hrb
    isplitl [HT]; · iexact HT
    iexact Htb
  iintro ⟨Hwd, HT⟩
  rw [wp_ret]; imodintro
  rw [show 4 * (t.val + 1) = 4 * t.val + 4 by omega]
  isplitr; · iexact HM
  isplitl [Hp]; · iexact Hp
  isplitl [Hwa Hwb Hi0 Hi1]
  · isplitl [Hi0]; · iexact Hi0
    isplitl [Hi1]; · iexact Hi1
    isplitl [Hwa]; · iexact Hwa
    iapply (Entails.of_eq (by rw [show 4 * t.val + 1 + 4 = 4 * t.val + 4 + 1 by omega] :
      OutSt d L mt pk arg11 (sem1 arg15) (4 * t.val + 1 + 4) = OutSt d L mt pk arg11 (sem1 arg15) (4 * t.val + 4 + 1))) $$ Hwb
  isplitl [Hwc Hwd Hi2 Hi3]
  · isplitl [Hi2]; · iexact Hi2
    isplitl [Hi3]; · iexact Hi3
    isplitl [Hwc]
    · iapply (Entails.of_eq (by rw [show 4 * t.val + 2 + 4 = 4 * t.val + 4 + 2 by omega] :
        OutSt d L mt pk arg12 (sem2 arg15) (4 * t.val + 2 + 4) = OutSt d L mt pk arg12 (sem2 arg15) (4 * t.val + 4 + 2))) $$ Hwc
    · iapply (Entails.of_eq (by rw [show 4 * t.val + 2 + 1 + 4 = 4 * t.val + 4 + 2 + 1 by omega] :
        OutSt d L mt pk arg13 (sem3 arg15) (4 * t.val + 2 + 1 + 4) = OutSt d L mt pk arg13 (sem3 arg15) (4 * t.val + 4 + 2 + 1))) $$ Hwd
  isplitl [HD]
  · iapply (Entails.of_eq (by rw [show 4 * t.val + 2 + 2 - 4 = 4 * t.val + 4 - 4 by omega] :
      Done d L mt pk (4 * t.val + 2 + 2 - 4) = Done d L mt pk (4 * t.val + 4 - 4))) $$ HD
  isplitl [HT]; · iexact HT
  iexact HO

end Trips

end Cert.Proof.Gather

end
-- ==== Proof.Body.lean ====
/-
  The whole kernel body at one task: the packed permutation comes in, the first four rows' fetches start, the outer
  loop runs, and the last four rows' writes are waited for.
-/
module

public import proofs.«01_k».proof.Proof.Trip

@[expose] public section

noncomputable section

namespace Cert.Proof.Gather

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ
local notation "EC" => (countersEmb : UEmb Counters (MT nD τ sig (HIx 1) (Elt F) ℕ UU ℕ))

variable (d : Dev nD) (L : grid0.Coords)

section Body
variable
  {harg2 : mtV.IsWhole} {harg3 : pkV.IsWhole} {harg4 : outV.IsWhole}
  {arg5 : Memref sig .scVector .vmem S6400 .i32} {harg5 : arg5.IsWhole}
  {arg6 : Memref sig .scVector .vmem S100x128 .f32} {harg6 : arg6.IsWhole}
  {arg7 : Memref sig .scVector .vmem S100x128 .f32} {harg7 : arg7.IsWhole}
  {arg8 : Memref sig .scVector .vmem S100x128 .f32} {harg8 : arg8.IsWhole}
  {arg9 : Memref sig .scVector .vmem S100x128 .f32} {harg9 : arg9.IsWhole}
  {arg10 : Memref sig .scVector .vmem S12800 .f32} {harg10 : arg10.IsWhole}
  {arg11 : Memref sig .scVector .vmem S12800 .f32} {harg11 : arg11.IsWhole}
  {arg12 : Memref sig .scVector .vmem S12800 .f32} {harg12 : arg12.IsWhole}
  {arg13 : Memref sig .scVector .vmem S12800 .f32} {harg13 : arg13.IsWhole}
  {arg14 arg15 : DmaSems sig S4} {v64_r0 : DmaSems sig S_}

/-- An output side at rest. -/
def Free (m : Memref sig .scVector .vmem S12800 .f32) (sem : DmaSem sig) : sProp 𝕄 :=
  iprop(Any d L m ∗ semVal (thr d L, .dma sem) 0)

omit [FloatOps F] in
/-- Some contents. -/
theorem Any.some {sp : Space} {s : Shape} {e : EltTy} {m : Memref sig .scVector sp s e} :
    (Any d L m : sProp 𝕄) ⊢ iprop(∃ f, m.view.loc (thr d L) ↦{fullShare} f) := .rfl

omit [FloatOps F] in
/-- Past the last row an input side is at rest, -/
theorem InSt.idle {q : PosShare TreeShare} {mt : S100x4096x128.Idx → Elt F .f32} {m : Memref sig .scVector .vmem S100x128 .f32} {sem : DmaSem sig} (n : ℕ) (hn : 128 ≤ n) :
    InSt d L q mt m sem n ⊢ Idle d L q mt m sem := by
  unfold InSt Idle
  rw [if_neg (by omega)]

omit [FloatOps F] in
/-- before the first trip an output side is, -/
theorem Free.out {mt : S100x4096x128.Idx → Elt F .f32} {pk : S6400.Idx → BitVec 32} {m : Memref sig .scVector .vmem S12800 .f32} {sem : DmaSem sig} (n : ℕ) (hn : n < 4) :
    Free d L m sem ⊢ OutSt d L mt pk m sem n := by
  unfold OutSt Free
  rw [if_neg (by omega)]

omit [FloatOps F] in
/-- and no row is done. -/
theorem Done.zero {mt : S100x4096x128.Idx → Elt F .f32} {pk : S6400.Idx → BitVec 32} : emp ⊢ Done d L mt pk 0 := by
  unfold Done
  rw [show seg (12800 * base L) (12800 * (base L + 0)) = ∅ from Finset.eq_empty_of_forall_notMem fun x h => by
    have := mem_seg.mp h; omega]
  exact Entails.of_eq pointsTo_empty.symm

variable (arg5 arg6 arg7 arg8 arg9 arg10 arg11 arg12 arg13 arg14 arg15 v64_r0) in
/-- What a task holds when no copy of its own is on its way, beside its part of the result: its read shares of the packed
    permutation and of `Mt`, its buffers at any contents and its semaphores at zero. -/
def AtRest (qp : PosShare TreeShare) (q : Fin 4 → PosShare TreeShare) (mt : S100x4096x128.Idx → Elt F .f32) (pk : S6400.Idx → BitVec 32) : sProp 𝕄 :=
  iprop(((pkLoc d ↦{qp} pk) ∗ Any d L arg5 ∗ semVal (thr d L, .dma v64_r0.sem) 0)
    ∗ (Idle d L (q 0) mt arg6 (sem0 arg14) ∗ Idle d L (q 1) mt arg7 (sem1 arg14) ∗ Idle d L (q 2) mt arg8 (sem2 arg14) ∗ Idle d L (q 3) mt arg9 (sem3 arg14))
    ∗ (Free d L arg10 (sem0 arg15) ∗ Free d L arg11 (sem1 arg15) ∗ Free d L arg12 (sem2 arg15) ∗ Free d L arg13 (sem3 arg15)))

/-- The packed permutation comes in, and the first three rows' fetches start. -/
theorem part3 {O : CellTallies nD τ sig (HIx 1)} {W : Waits sig (HIx 1)} {qp q0 q1 q2 : PosShare TreeShare} {mt : S100x4096x128.Idx → Elt F .f32} {pk : S6400.Idx → BitVec 32} :
    iprop(MayWaits (thr d L) none O ∗ ((pkLoc d ↦{qp} pk) ∗ Any d L arg5 ∗ semVal (thr d L, .dma v64_r0.sem) 0)
        ∗ (Idle d L q0 mt arg6 (sem0 arg14) ∗ Idle d L q1 mt arg7 (sem1 arg14) ∗ Idle d L q2 mt arg8 (sem2 arg14))
        ∗ Owe d L O W)
      ⊢ wp frame (wpE (defs₀ (F := F)) 𝒱₀ (thr d L) none) Set.univ
          (k0_part3 L mtV harg2 pkV harg3 outV harg4 arg5 harg5 arg6 harg6 arg7 harg7 arg8 harg8 arg9 harg9 arg10 harg10 arg11 harg11 arg12 harg12 arg13 harg13 arg14 arg15 v64_r0)
          fun _ => iprop(Has d L arg5 pk ∗ ((pkLoc d ↦{qp} pk) ∗ semVal (thr d L, .dma v64_r0.sem) 0)
            ∗ (InSt d L q0 mt arg6 (sem0 arg14) 0 ∗ InSt d L q1 mt arg7 (sem1 arg14) 1 ∗ InSt d L q2 mt arg8 (sem2 arg14) 2)
            ∗ Owe d L O W) := by
  rw [k0_part3_eq_skeleton]
  unfold k0_part3_skel Idle
  simp only [Prog.lift, Prog.bind_op, Prog.bind_ret, Prog.pure_eq_ret]
  iintro ⟨#HM, ⟨Hpk, Hp, Hps⟩, ⟨Hi0, Hi1, Hi2⟩, HO⟩
  ihave Hp' := (Any.some d L) $$ Hp
  icases Hp' with ⟨%f, Hp⟩
  iapply (wp_dmaLocal EC 𝒱₀ (thr d L) none (src := pkV) (dst := arg5) (q := qp) (fs := pk) (fd := f) (Sd := Finset.univ)
    none arg5.view.dmaCredit rfl (arg5.view.dmaCredit_pos (by decide)) (Finset.subset_univ _)) $$ [Hpk Hp Hps]
  · isplitl [Hpk]
    · iapply (Entails.of_eq (by rw [harg3.set_eq_univ] : (pkLoc d ↦{qp} pk : sProp 𝕄) = (pkLoc d ↦[pkV.view.set]{qp} pk))) $$ Hpk
    isplitl [Hp]; · iexact Hp
    iexact Hps
  iintro HF
  iapply (wait_own d L (O := O) (W := W) rfl) $$ [HF HO]
  · isplitl [HF]; · iexact HF
    isplitl [HO]; · iexact HO
    iexact HM
  iintro ⟨⟨Hp, Hpk⟩, Hps, HO⟩
  iapply (in_issue d L 0 (by omega) ((k0_off1_eq L 0).trans (off_congr (by unfold base; simp)))) $$ Hi0
  iintro Hi0
  iapply (in_issue d L 1 (by omega) ((k0_off1_eq L 1).trans (off_congr (by unfold base; simp)))) $$ Hi1
  iintro Hi1
  iapply (in_issue d L 2 (by omega) ((k0_off1_eq L 2).trans (off_congr (by unfold base; simp)))) $$ Hi2
  iintro Hi2
  rw [wp_ret]; imodintro
  isplitl [Hp]
  · unfold Has
    iexists _
    isplitr
    rotate_left
    · iexact Hp
    ipureintro
    rw [View.read_write_univ]
    rfl
  isplitl [Hpk Hps]
  · isplitl [Hpk]
    · iapply (Entails.of_eq (by rw [harg3.set_eq_univ] : (pkLoc d ↦[pkV.view.set]{qp} pk : sProp 𝕄) = (pkLoc d ↦{qp} pk))) $$ Hpk
    iexact Hps
  isplitl [Hi0 Hi1 Hi2]
  · isplitl [Hi0]; · iexact Hi0
    isplitl [Hi1]; · iexact Hi1
    iexact Hi2
  iexact HO

/-- The fourth row's fetch, the outer loop, and the waits for three of the last four writes. -/
theorem part4 {O : CellTallies nD τ sig (HIx 1)} {W : Waits sig (HIx 1)} {q : Fin 4 → PosShare TreeShare} {mt : S100x4096x128.Idx → Elt F .f32} {pk : S6400.Idx → BitVec 32}
    (hpk : InRange pk) {f0 : S52428800.Idx → Elt F .f32} {v2 : BitVec 32} :
    iprop(MayWaits (thr d L) none O ∗ Has d L arg5 pk
        ∗ (InSt d L (q 0) mt arg6 (sem0 arg14) 0 ∗ InSt d L (q 1) mt arg7 (sem1 arg14) 1 ∗ InSt d L (q 2) mt arg8 (sem2 arg14) 2 ∗ Idle d L (q 3) mt arg9 (sem3 arg14))
        ∗ (Free d L arg10 (sem0 arg15) ∗ Free d L arg11 (sem1 arg15) ∗ Free d L arg12 (sem2 arg15) ∗ Free d L arg13 (sem3 arg15))
        ∗ Done d L mt pk 0 ∗ Todo d L f0 0 ∗ Owe d L O W)
      ⊢ wp frame (wpE (defs₀ (F := F)) 𝒱₀ (thr d L) none) Set.univ
          (k0_part4 L mtV harg2 pkV harg3 outV harg4 arg5 harg5 arg6 harg6 arg7 harg7 arg8 harg8 arg9 harg9 arg10 harg10 arg11 harg11 arg12 harg12 arg13 harg13 arg14 arg15 v64_r0 v2)
          fun _ => iprop(Has d L arg5 pk
            ∗ (Idle d L (q 0) mt arg6 (sem0 arg14) ∗ Idle d L (q 1) mt arg7 (sem1 arg14) ∗ Idle d L (q 2) mt arg8 (sem2 arg14) ∗ Idle d L (q 3) mt arg9 (sem3 arg14))
            ∗ (Free d L arg10 (sem0 arg15) ∗ Free d L arg11 (sem1 arg15) ∗ Free d L arg12 (sem2 arg15) ∗ OutSt d L mt pk arg13 (sem3 arg15) 131)
            ∗ Done d L mt pk 127 ∗ Owe d L O W) := by
  rw [k0_part4_eq_skeleton]
  unfold k0_part4_skel
  simp only [Prog.lift, Prog.bind_op, Prog.bind_ret, Prog.pure_eq_ret]
  iintro ⟨#HM, Hp, ⟨Hi0, Hi1, Hi2, Hi3⟩, ⟨Ho0, Ho1, Ho2, Ho3⟩, HD, HT, HO⟩
  iapply (in_issue d L 3 (by omega) ((k0_off1_eq L 3).trans (off_congr (by unfold base; simp)))) $$ [Hi3]
  · unfold Idle; iexact Hi3
  iintro Hi3
  iapply (Scf.wp_for_bind _ _ _ _ _ _ k0_t1_ok ⟨⟩ _
    (fun t _ => iprop(MayWaits (thr d L) none O ∗ OuterAt d L arg5 arg6 arg7 arg8 arg9 arg10 arg11 arg12 arg13 arg14 arg15 O W q mt pk f0 t))
    (fun t acc => trip d L hpk t acc)) $$ [Hp Hi0 Hi1 Hi2 Hi3 Ho0 Ho1 Ho2 Ho3 HD HT HO]
  · unfold OuterAt Pair
    isplitr; · iexact HM
    isplitl [Hp]; · iexact Hp
    isplitl [Hi0 Hi1 Ho0 Ho1]
    · isplitl [Hi0]; · iexact Hi0
      isplitl [Hi1]; · iexact Hi1
      isplitl [Ho0]; · iapply (Free.out d L _ (by omega)); iexact Ho0
      iapply (Free.out d L _ (by omega)); iexact Ho1
    isplitl [Hi2 Hi3 Ho2 Ho3]
    · isplitl [Hi2]; · iexact Hi2
      isplitl [Hi3]; · iexact Hi3
      isplitl [Ho2]; · iapply (Free.out d L _ (by omega)); iexact Ho2
      iapply (Free.out d L _ (by omega)); iexact Ho3
    isplitl [HD]; · iexact HD
    isplitl [HT]; · iexact HT
    iexact HO
  iintro %_ H
  ihave H' := (Entails.of_eq (by rw [trips1] : iprop(MayWaits (thr d L) none O ∗ OuterAt d L arg5 arg6 arg7 arg8 arg9 arg10 arg11 arg12 arg13 arg14 arg15 O W q mt pk f0 k0_t1_loop.trips)
    = iprop(MayWaits (thr d L) none O ∗ OuterAt d L arg5 arg6 arg7 arg8 arg9 arg10 arg11 arg12 arg13 arg14 arg15 O W q mt pk f0 32))) $$ H
  unfold OuterAt Pair
  icases H' with ⟨-, Hp, ⟨Hi0, Hi1, Ho0, Ho1⟩, ⟨Hi2, Hi3, Ho2, Ho3⟩, HD, -, HO⟩
  iapply (out_wait d L (O := O) (W := W) (n := 128) (by omega)) $$ [Ho0 HD HO]
  · isplitl [Ho0]; · iexact Ho0
    isplitl [HD]; · iexact HD
    isplitl [HO]; · iexact HO
    iexact HM
  iintro ⟨Hb0, Hs0, HD, HO⟩
  iapply (out_wait d L (O := O) (W := W) (n := 129) (by omega)) $$ [Ho1 HD HO]
  · isplitl [Ho1]; · iexact Ho1
    isplitl [HD]; · iexact HD
    isplitl [HO]; · iexact HO
    iexact HM
  iintro ⟨Hb1, Hs1, HD, HO⟩
  iapply (out_wait d L (O := O) (W := W) (n := 130) (by omega)) $$ [Ho2 HD HO]
  · isplitl [Ho2]; · iexact Ho2
    isplitl [HD]; · iexact HD
    isplitl [HO]; · iexact HO
    iexact HM
  iintro ⟨Hb2, Hs2, HD, HO⟩
  rw [wp_ret]; imodintro
  isplitl [Hp]; · iexact Hp
  isplitl [Hi0 Hi1 Hi2 Hi3]
  · isplitl [Hi0]; · iapply (InSt.idle d L (4 * 32) (by omega)); iexact Hi0
    isplitl [Hi1]; · iapply (InSt.idle d L (4 * 32 + 1) (by omega)); iexact Hi1
    isplitl [Hi2]; · iapply (InSt.idle d L (4 * 32 + 2) (by omega)); iexact Hi2
    iapply (InSt.idle d L (4 * 32 + 2 + 1) (by omega)); iexact Hi3
  unfold Free
  isplitl [Hb0 Hs0 Hb1 Hs1 Hb2 Hs2 Ho3]
  · isplitl [Hb0 Hs0]
    · isplitl [Hb0]; · iexact Hb0
      iexact Hs0
    isplitl [Hb1 Hs1]
    · isplitl [Hb1]; · iexact Hb1
      iexact Hs1
    isplitl [Hb2 Hs2]
    · isplitl [Hb2]; · iexact Hb2
      iexact Hs2
    iexact Ho3
  isplitl [HD]; · iexact HD
  iexact HO

/-- The kernel body: from a task at rest and its 128 result rows at any contents, the task at rest and its rows in
    place. -/
theorem body {O : CellTallies nD τ sig (HIx 1)} {W : Waits sig (HIx 1)} {qp : PosShare TreeShare} {q : Fin 4 → PosShare TreeShare} {mt : S100x4096x128.Idx → Elt F .f32}
    {pk : S6400.Idx → BitVec 32} (hpk : InRange pk) {f0 : S52428800.Idx → Elt F .f32} :
    iprop(MayWaits (thr d L) none O ∗ AtRest d L arg5 arg6 arg7 arg8 arg9 arg10 arg11 arg12 arg13 arg14 arg15 v64_r0 qp q mt pk ∗ Todo d L f0 0 ∗ Owe d L O W)
      ⊢ wp frame (wpE (defs₀ (F := F)) 𝒱₀ (thr d L) none) Set.univ
          (cc0_gather_kernel L mtV harg2 pkV harg3 outV harg4 arg5 harg5 arg6 harg6 arg7 harg7 arg8 harg8 arg9 harg9 arg10 harg10 arg11 harg11 arg12 harg12 arg13 harg13 arg14 arg15 v64_r0)
          fun _ => iprop(AtRest d L arg5 arg6 arg7 arg8 arg9 arg10 arg11 arg12 arg13 arg14 arg15 v64_r0 qp q mt pk ∗ Done d L mt pk 128 ∗ Owe d L O W) := by
  rw [cc0_gather_kernel_eq_skeleton]
  unfold cc0_gather_kernel_skel AtRest
  refine wp_then d L (part3 d L (O := O) (W := W) (qp := qp) (q0 := q 0) (q1 := q 1) (q2 := q 2) (mt := mt) (pk := pk)) (R := iprop(MayWaits (thr d L) none O
    ∗ Idle d L (q 3) mt arg9 (sem3 arg14)
    ∗ (Free d L arg10 (sem0 arg15) ∗ Free d L arg11 (sem1 arg15) ∗ Free d L arg12 (sem2 arg15) ∗ Free d L arg13 (sem3 arg15))
    ∗ Todo d L f0 0)) ?_ fun v2 => ?_
  · iintro ⟨#HM, ⟨Hp, ⟨Hi0, Hi1, Hi2, Hi3⟩, Ho⟩, HT, HO⟩
    isplitl [Hp Hi0 Hi1 Hi2 HO]
    · isplitr; · iexact HM
      isplitl [Hp]; · iexact Hp
      isplitl [Hi0 Hi1 Hi2]
      · isplitl [Hi0]; · iexact Hi0
        isplitl [Hi1]; · iexact Hi1
        iexact Hi2
      iexact HO
    isplitr; · iexact HM
    isplitl [Hi3]; · iexact Hi3
    isplitl [Ho]; · iexact Ho
    iexact HT
  refine wp_then d L (part4 d L (O := O) (W := W) (q := q) (mt := mt) (f0 := f0) hpk) (R := iprop(MayWaits (thr d L) none O
    ∗ (pkLoc d ↦{qp} pk) ∗ semVal (thr d L, .dma v64_r0.sem) 0)) ?_ fun _ => ?_
  · iintro ⟨⟨Hp, ⟨Hpk, Hps⟩, ⟨Hi0, Hi1, Hi2⟩, HO⟩, #HM, Hi3, Ho, HT⟩
    isplitl [Hp Hi0 Hi1 Hi2 Hi3 Ho HT HO]
    · isplitr; · iexact HM
      isplitl [Hp]; · iexact Hp
      isplitl [Hi0 Hi1 Hi2 Hi3]
      · isplitl [Hi0]; · iexact Hi0
        isplitl [Hi1]; · iexact Hi1
        isplitl [Hi2]; · iexact Hi2
        iexact Hi3
      isplitl [Ho]; · iexact Ho
      isplitr
      · iapply (Done.zero d L); iempintro
      isplitl [HT]; · iexact HT
      iexact HO
    isplitr; · iexact HM
    isplitl [Hpk]; · iexact Hpk
    iexact Hps
  simp only [Prog.lift, Prog.bind_op, Prog.bind_ret, Prog.pure_eq_ret]
  iintro ⟨⟨Hp, Hi, ⟨Ho0, Ho1, Ho2, Ho3⟩, HD, HO⟩, #HM, Hpk, Hps⟩
  iapply (out_wait d L (O := O) (W := W) (n := 131) (by omega)) $$ [Ho3 HD HO]
  · isplitl [Ho3]; · iexact Ho3
    isplitl [HD]; · iexact HD
    isplitl [HO]; · iexact HO
    iexact HM
  iintro ⟨Hb3, Hs3, HD, HO⟩
  rw [wp_ret]; imodintro
  isplitl [Hp Hpk Hps Hi Ho0 Ho1 Ho2 Hb3 Hs3]
  · isplitl [Hp Hpk Hps]
    · isplitl [Hpk]; · iexact Hpk
      isplitl [Hp]; · iapply (Has.any d L); iexact Hp
      iexact Hps
    isplitl [Hi]; · iexact Hi
    isplitl [Ho0]; · iexact Ho0
    isplitl [Ho1]; · iexact Ho1
    isplitl [Ho2]; · iexact Ho2
    unfold Free
    isplitl [Hb3]; · iexact Hb3
    iexact Hs3
  isplitl [HD]; · iexact HD
  iexact HO

end Body

end Cert.Proof.Gather

end
-- ==== Proof.Tile.lean ====
/-
  One vector subcore's run: its own buffers and semaphores dealt to the kernel body, and handed back.
-/
module

public import proofs.«01_k».proof.Proof.Body

@[expose] public section

noncomputable section

namespace Cert.Proof.Gather

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ
local notation "EC" => (countersEmb : UEmb Counters (MT nD τ sig (HIx 1) (Elt F) ℕ UU ℕ))

variable (d : Dev nD) (L : grid0.Coords)

/-! ## The task's own buffers and semaphores -/

/-- The kernel's nine scratch buffers: the packed permutation, four rows coming in, four rows going out. -/
def scratch : List (Ref sig .scVector) :=
  [cc0_scratch0, cc0_scratch1, cc0_scratch2, cc0_scratch3, cc0_scratch4, cc0_scratch5, cc0_scratch6, cc0_scratch7, cc0_scratch8]

/-- The kernel's nine semaphores, in the same order. -/
def counters : List (SemLoc sig) :=
  [.dma cc0_scoped0.sem, .dma (sem0 cc0_scratch9), .dma (sem1 cc0_scratch9), .dma (sem2 cc0_scratch9), .dma (sem3 cc0_scratch9),
    .dma (sem0 cc0_scratch10), .dma (sem1 cc0_scratch10), .dma (sem2 cc0_scratch10), .dma (sem3 cc0_scratch10)]

theorem scratch_nodup : scratch.Nodup := by decide
theorem counters_nodup : counters.Nodup := by decide
theorem counters_scoped : ∀ s ∈ counters, s.isScoped .scVector = true := by decide

/-- Each scratch buffer is the subcore's own. -/
theorem scratch_owner : ∀ r ∈ scratch, ((thr d L).2.devRef r).owner = .proc (thr d L).2 := by
  intro r hr
  unfold scratch at hr
  simp only [List.mem_cons, List.not_mem_nil, or_false] at hr
  rcases hr with rfl | rfl | rfl | rfl | rfl | rfl | rfl | rfl | rfl <;> rfl

omit [FloatOps F] in
/-- The subcore's own buffers are the nine scratch buffers, each at some contents, and the rest. -/
theorem ownBufs_scratch : (ownBufs (thr d L) : sProp 𝕄)
    = iprop(bigSepL scratch (fun b => iprop(∃ f, (thr d L).loc b ↦{fullShare} f))
        ∗ bigSep (ownRefs (thr d L).2 \ scratch.toFinset.image (thr d L).2.devRef) fun b => iprop(∃ f, ((d, b) : Loc nD τ sig) ↦{fullShare} f)) := by
  have hs : scratch.toFinset.image (thr d L).2.devRef ⊆ ownRefs (thr d L).2 := fun b hb => by
    obtain ⟨r, hr, rfl⟩ := Finset.mem_image.mp hb
    exact SparseCore.Cfg.mem_ownRefs_of_owner (scratch_owner d L r (List.mem_toFinset.mp hr))
  unfold SparseCore.Cfg.ownBufs
  rw [bigSep_sdiff_split hs, SparseCore.bigSep_image_of_injOn (Proc.devRef_injective _).injOn, bigSep_eq_bigSepL scratch scratch_nodup]
  rfl

omit [FloatOps F] in
/-- The subcore's own semaphores at zero are the nine of the kernel and the rest. -/
theorem ownSems0_counters : (ownSems0 (thr d L) : sProp 𝕄)
    = iprop(bigSepL counters (fun s => semVal (thr d L, s) 0)
        ∗ bigSep (ownCells (thr d L) \ counters.toFinset.image fun s => (thr d L, s)) fun g => semVal g 0) := by
  have hs : counters.toFinset.image (fun s => (thr d L, s)) ⊆ ownCells (thr d L) := fun g hg => by
    obtain ⟨s, hs, rfl⟩ := Finset.mem_image.mp hg
    exact mem_ownCells.mpr ⟨rfl, counters_scoped s (List.mem_toFinset.mp hs)⟩
  unfold SparseCore.Cfg.ownSems0
  rw [bigSep_sdiff_split hs, SparseCore.bigSep_image_of_injOn (fun _ _ _ _ e => (Prod.mk.inj e).2), bigSep_eq_bigSepL counters counters_nodup]
  rfl

/-! ## The task -/

/-- What a task is handed: a share of the packed permutation, four shares of `Mt`, and its rows of the result at `g`. -/
def Task (qp : PosShare TreeShare) (q : Fin 4 → PosShare TreeShare) (mt : S100x4096x128.Idx → Elt F .f32) (pk : S6400.Idx → BitVec 32)
    (g : S52428800.Idx → Elt F .f32) : sProp 𝕄 :=
  iprop((pkLoc d ↦{qp} pk) ∗ (bigSep Finset.univ fun r => mtLoc d ↦{q r} mt) ∗ outLoc d ↦[seg (12800 * base L) (12800 * (base L + 128))]{fullShare} g)

omit [FloatOps F] in
/-- The four shares of `Mt`, listed. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- Nine listed pieces, one by one. -/
theorem nine {I : Type} (a b c e f g h i j : I) (Φ : I → sProp 𝕄) :
    bigSepL [a, b, c, e, f, g, h, i, j] Φ = iprop(Φ a ∗ Φ b ∗ Φ c ∗ Φ e ∗ Φ f ∗ Φ g ∗ Φ h ∗ Φ i ∗ Φ j) := rfl

omit [FloatOps F] in
/-- The scratch of the kernel and what the task is handed, sorted the way the body takes them. -/
theorem at_rest {qp : PosShare TreeShare} {q : Fin 4 → PosShare TreeShare} {mt : S100x4096x128.Idx → Elt F .f32} {pk : S6400.Idx → BitVec 32} :
    iprop(((pkLoc d ↦{qp} pk) ∗ (bigSep Finset.univ fun r => mtLoc d ↦{q r} mt))
        ∗ bigSepL scratch (fun b => iprop(∃ f, (thr d L).loc b ↦{fullShare} f)) ∗ bigSepL counters (fun s => (semVal (thr d L, s) 0 : sProp 𝕄)))
      ⊣⊢ AtRest d L (Memref.whole cc0_scratch0) (Memref.whole cc0_scratch1) (Memref.whole cc0_scratch2) (Memref.whole cc0_scratch3) (Memref.whole cc0_scratch4)
        (Memref.whole cc0_scratch5) (Memref.whole cc0_scratch6) (Memref.whole cc0_scratch7) (Memref.whole cc0_scratch8) cc0_scratch9 cc0_scratch10 cc0_scoped0 qp q mt pk := by
  rw [four]
  unfold AtRest Idle Free Any scratch counters
  rw [nine, nine]
  constructor
  · iintro ⟨⟨Hpk, H0, H1, H2, H3⟩, ⟨B0, B1, B2, B3, B4, B5, B6, B7, B8⟩, ⟨C0, C1, C2, C3, C4, C5, C6, C7, C8⟩⟩
    isplitl [Hpk B0 C0]
    · isplitl [Hpk]; · iexact Hpk
      isplitl [B0]; · iexact B0
      iexact C0
    isplitl [H0 H1 H2 H3 B1 B2 B3 B4 C1 C2 C3 C4]
    · isplitl [H0 B1 C1]
      · isplitl [H0]; · iexact H0
        isplitl [B1]; · iexact B1
        iexact C1
      isplitl [H1 B2 C2]
      · isplitl [H1]; · iexact H1
        isplitl [B2]; · iexact B2
        iexact C2
      isplitl [H2 B3 C3]
      · isplitl [H2]; · iexact H2
        isplitl [B3]; · iexact B3
        iexact C3
      isplitl [H3]; · iexact H3
      isplitl [B4]; · iexact B4
      iexact C4
    isplitl [B5 C5]
    · isplitl [B5]; · iexact B5
      iexact C5
    isplitl [B6 C6]
    · isplitl [B6]; · iexact B6
      iexact C6
    isplitl [B7 C7]
    · isplitl [B7]; · iexact B7
      iexact C7
    isplitl [B8]; · iexact B8
    iexact C8
  · iintro ⟨⟨Hpk, B0, C0⟩, ⟨⟨H0, B1, C1⟩, ⟨H1, B2, C2⟩, ⟨H2, B3, C3⟩, ⟨H3, B4, C4⟩⟩, ⟨B5, C5⟩, ⟨B6, C6⟩, ⟨B7, C7⟩, ⟨B8, C8⟩⟩
    isplitl [Hpk H0 H1 H2 H3]
    · isplitl [Hpk]; · iexact Hpk
      isplitl [H0]; · iexact H0
      isplitl [H1]; · iexact H1
      isplitl [H2]; · iexact H2
      iexact H3
    isplitl [B0 B1 B2 B3 B4 B5 B6 B7 B8]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      iexact B8
    isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    iexact C8

/-- The kernel on one vector subcore: from its shares of the inputs and its rows of the result at any contents, the same
    with its rows gathered. -/
theorem tile_body (hF : (K (F := F)).Facts) {O : CellTallies nD τ sig (HIx 1)} {W : Waits sig (HIx 1)} (hO : ∀ g, O g none = 0)
    {qp : PosShare TreeShare} {q : Fin 4 → PosShare TreeShare} {mt : S100x4096x128.Idx → Elt F .f32}
    {pk : S6400.Idx → BitVec 32} (hpk : InRange pk) {f0 : S52428800.Idx → Elt F .f32} :
    iprop(levAts (K (F := F)).L (K (F := F)).lev ∗ emp ∗ Task d L qp q mt pk f0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L mtV (Memref.isWhole_whole _) pkV (Memref.isWhole_whole _) outV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            cc0_scratch9 cc0_scratch10 cc0_scoped0)
          fun _ => iprop(Task d L qp q mt pk (flatOut mt pk) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_counters, ownBufs_scratch]
  unfold Task
  refine BI.Entails.trans (Q := iprop(iprop(MayWaits (thr d L) none O
      ∗ AtRest d L (Memref.whole cc0_scratch0) (Memref.whole cc0_scratch1) (Memref.whole cc0_scratch2) (Memref.whole cc0_scratch3) (Memref.whole cc0_scratch4)
        (Memref.whole cc0_scratch5) (Memref.whole cc0_scratch6) (Memref.whole cc0_scratch7) (Memref.whole cc0_scratch8) cc0_scratch9 cc0_scratch10 cc0_scoped0 qp q mt pk
      ∗ Todo d L f0 0 ∗ Owe d L O W)
    ∗ (bigSep (ownRefs (thr d L).2 \ scratch.toFinset.image (thr d L).2.devRef) fun b => iprop(∃ f, ((d, b) : Loc nD τ sig) ↦{fullShare} f))
    ∗ (bigSep (ownCells (thr d L) \ counters.toFinset.image fun s => (thr d L, s)) fun g => semVal g 0))) ?_
      ((sep_mono_left (body d L hpk)).trans ((wp_frame_r _ _ _).trans (wp_mono _ _ _ fun _ => ?_)))
  · show (_ : sProp 𝕄) ⊢ (_ : sProp 𝕄)
    iintro ⟨#Hlv, -, ⟨Hpk, Hmt, Ho⟩, ⟨Hs, Hrefs⟩, ⟨Hc, Hcells⟩, HO⟩
    ihave #Hmw := ((K (F := F)).mayWaits_none (thr := thr d L) hO) $$ Hlv
    isplitr [Hrefs Hcells]
    · isplitr; · iexact Hmw
      isplitr [Ho HO]
      · iapply (at_rest d L).1
        isplitl [Hpk Hmt]
        · isplitl [Hpk]; · iexact Hpk
          iexact Hmt
        isplitl [Hs]; · iexact Hs
        iexact Hc
      isplitl [Ho]
      · unfold Todo
        iexact Ho
      unfold Owe
      iexists W; isplitr
      · ipureintro; exact fun p hp => .inl hp
      iexact HO
    isplitl [Hrefs]; · iexact Hrefs
    iexact Hcells
  · iintro ⟨⟨HA, HD, HO⟩, Hrefs, Hcells⟩
    ihave HA' := (at_rest d L).2 $$ HA
    icases HA' with ⟨⟨Hpk, Hmt⟩, Hs, Hc⟩
    isplitl [Hpk Hmt HD]
    · isplitl [Hpk]; · iexact Hpk
      isplitl [Hmt]; · iexact Hmt
      unfold Done
      iexact HD
    isplitl [Hs Hrefs]
    · isplitl [Hs]; · iexact Hs
      iexact Hrefs
    isplitl [Hc Hcells]
    · isplitl [Hc]; · iexact Hc
      iexact Hcells
    unfold Owe
    iexact HO

end Cert.Proof.Gather

end
-- ==== Proof.Deal.lean ====
/-
  How the whole inputs and the whole result are dealt to the 32 vector subcores.
-/
module

public import proofs.«01_k».proof.Proof.Tile

@[expose] public section

noncomputable section

namespace Cert.Proof.Gather

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ
local notation "EC" => (countersEmb : UEmb Counters (MT nD τ sig (HIx 1) (Elt F) ℕ UU ℕ))

variable (d : Dev nD) (L : grid0.Coords)

/-! ## The grid's points -/

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The grid point's first row. -/
theorem base_coordsV (c : Fin 2) (i : Fin 16) : base (coordsV c i) = 256 * i.val + 128 * c.val := rfl

/-- The piece of the flat result that a grid point writes. -/
def piece (x : Fin 2 × Fin 16) : Finset S52428800.Idx := seg (12800 * base (coordsV x.1 x.2)) (12800 * (base (coordsV x.1 x.2) + 128))

/-- Two grid points' pieces share no element. -/
theorem pieces_disjoint : ∀ x ∈ (Finset.univ : Finset (Fin 2 × Fin 16)), ∀ y ∈ (Finset.univ : Finset (Fin 2 × Fin 16)), x ≠ y → Disjoint (piece x) (piece y) := by
  rintro ⟨c, i⟩ - ⟨c', i'⟩ - hne
  rw [Finset.disjoint_left]
  intro z h1 h2
  unfold piece at h1 h2
  rw [mem_seg, base_coordsV] at h1 h2
  dsimp only at h1 h2
  have hc := c.isLt; have hc' := c'.isLt
  apply hne
  have e1 : i.val = i'.val := by omega
  have e2 : c.val = c'.val := by omega
  exact Prod.ext (Fin.ext e2) (Fin.ext e1)

/-- The pieces together are the whole flat result. -/
theorem pieces_cover : (Finset.univ : Finset (Fin 2 × Fin 16)).biUnion piece = Finset.univ := by
  refine Finset.eq_univ_iff_forall.mpr fun z => Finset.mem_biUnion.mpr ?_
  have hz : (z 0).val < 52428800 := (z 0).isLt
  refine ⟨(⟨(z 0).val / 1638400 % 2, by omega⟩, ⟨(z 0).val / 3276800, by omega⟩), Finset.mem_univ _, ?_⟩
  unfold piece
  rw [mem_seg, base_coordsV]
  dsimp only
  omega

/-! ## The inputs' shares -/

/-- The share of the packed permutation that a grid point reads through. -/
def qPk (c : Fin 2) (i : Fin 16) : PosShare TreeShare := dealOf (dealOf fullShare Finset.univ c) Finset.univ i
/-- The four shares of `Mt` that a grid point reads through, one for each slot of its ring. -/
def qMt (c : Fin 2) (i : Fin 16) (r : Fin 4) : PosShare TreeShare := dealOf (dealOf (dealOf fullShare Finset.univ c) Finset.univ i) Finset.univ r

omit [FloatOps F] in
/-- The inputs and the flat result, whole, are the grid points' tasks. -/
theorem whole_tasks (mt : S100x4096x128.Idx → Elt F .f32) (pk : S6400.Idx → BitVec 32) (g : S52428800.Idx → Elt F .f32) :
    (iprop((pkLoc d ↦{fullShare} pk) ∗ (mtLoc d ↦{fullShare} mt) ∗ outLoc d ↦{fullShare} g) : sProp 𝕄)
      = bigSep Finset.univ fun c : Fin 2 => bigSep Finset.univ fun i : Fin 16 => Task d (coordsV c i) (qPk c i) (qMt c i) mt pk g := by
  have hpk : (pkLoc d ↦{fullShare} pk : sProp 𝕄) = bigSep Finset.univ fun c : Fin 2 => bigSep Finset.univ fun i : Fin 16 => pkLoc d ↦{qPk c i} pk :=
    (pointsTo_deal Finset.univ Finset.univ_nonempty _).trans (bigSep_congr fun c _ => pointsTo_deal Finset.univ Finset.univ_nonempty _)
  have hmt : (mtLoc d ↦{fullShare} mt : sProp 𝕄)
      = bigSep Finset.univ fun c : Fin 2 => bigSep Finset.univ fun i : Fin 16 => bigSep Finset.univ fun r : Fin 4 => mtLoc d ↦{qMt c i r} mt :=
    (pointsTo_deal Finset.univ Finset.univ_nonempty _).trans (bigSep_congr fun c _ =>
      (pointsTo_deal Finset.univ Finset.univ_nonempty _).trans (bigSep_congr fun i _ => pointsTo_deal Finset.univ Finset.univ_nonempty _))
  have hout : (outLoc d ↦{fullShare} g : sProp 𝕄)
      = bigSep Finset.univ fun c : Fin 2 => bigSep Finset.univ fun i : Fin 16 => outLoc d ↦[piece (c, i)]{fullShare} g := by
    rw [← bigSep_univ_prod (fun x : Fin 2 × Fin 16 => (outLoc d ↦[piece x]{fullShare} g : sProp 𝕄)),
      ← pointsTo_biUnion Finset.univ (ℓ := outLoc d) piece pieces_disjoint, pieces_cover]
  rw [hpk, hmt, hout]
  unfold Task
  simp only [bigSep_sep']
  rfl

end Cert.Proof.Gather

end
-- ==== Proof.Launch.lean ====
/-
  The launch: the host's operations, what the call hands out and takes back, and the program's run.
-/
module

public import proofs.«01_k».proof.Proof.Deal
public import Idealize.ShloMosaic.Lib.Pipeline.Frame

@[expose] public section

noncomputable section

namespace Cert.Proof.Gather

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ
local notation "EC" => (countersEmb : UEmb Counters (MT nD τ sig (HIx 1) (Elt F) ℕ UU ℕ))

variable (d : Dev nD) (L : grid0.Coords)

variable (m : (ℓ : Loc nD τ sig) → Buf (Elt F) ℓ) (ρ : Dev nD → PrngReg)

/-! ## The host's operations before and after the call -/

abbrev v0' : DevRef τ sig := Proc.devRef .tc main_v0
abbrev v9' : DevRef τ sig := Proc.devRef .tc main_v9
abbrev v10' : DevRef τ sig := Proc.devRef .tc main_v10

/-- What the host computes before the call: `Mt` and the packed permutation. -/
def packOps : List (HloOp τ sig (Elt F)) :=
  [StableHlo.unary main_arg0 main_v0 ((transpose S100x4096x128 [1, 0, 2] · transposes_S4096x100x128_S100x4096x128_1_0_2) : (⟨S4096x100x128, .f32⟩ : BufTy).Contents (Elt F) → (⟨S100x4096x128, .f32⟩ : BufTy).Contents (Elt F)),
    StableHlo.reshape main_arg1 main_v1 (rfl : (.i32 : EltTy) = .i32) shapeCasts_S12800_S400x2x16,
    StableHlo.unary main_v1 main_v2 ((extractStridedSlice S400x1x16 ![0, 0, 0] · slices_S400x2x16_S400x1x16_0_0_0) : (⟨S400x2x16, .i32⟩ : BufTy).Contents (Elt F) → (⟨S400x1x16, .i32⟩ : BufTy).Contents (Elt F)),
    StableHlo.reshape main_v2 main_v3 (rfl : (.i32 : EltTy) = .i32) shapeCasts_S400x1x16_S400x16,
    StableHlo.unary main_v1 main_v4 ((extractStridedSlice S400x1x16 ![0, 1, 0] · slices_S400x2x16_S400x1x16_0_1_0) : (⟨S400x2x16, .i32⟩ : BufTy).Contents (Elt F) → (⟨S400x1x16, .i32⟩ : BufTy).Contents (Elt F)),
    StableHlo.reshape main_v4 main_v5 (rfl : (.i32 : EltTy) = .i32) shapeCasts_S400x1x16_S400x16,
    StableHlo.nullary main_c (constantI S_ 32 16#32),
    StableHlo.unary main_c main_v6 (broadcastInDim S400x16 ![] bcast_S_S400x16 : (⟨S_, .i32⟩ : BufTy).Contents (Elt F) → (⟨S400x16, .i32⟩ : BufTy).Contents (Elt F)),
    StableHlo.binary main_v5 main_v6 main_v7 (Host.shli : (⟨S400x16, .i32⟩ : BufTy).Contents (Elt F) → (⟨S400x16, .i32⟩ : BufTy).Contents (Elt F) → (⟨S400x16, .i32⟩ : BufTy).Contents (Elt F)),
    StableHlo.binary main_v3 main_v7 main_v8 (ori : (⟨S400x16, .i32⟩ : BufTy).Contents (Elt F) → (⟨S400x16, .i32⟩ : BufTy).Contents (Elt F) → (⟨S400x16, .i32⟩ : BufTy).Contents (Elt F)),
    StableHlo.reshape main_v8 main_v9 (rfl : (.i32 : EltTy) = .i32) shapeCasts_S400x16_S6400]

/-- What the host computes after the call: the flat result's three-axis shape. -/
def shapeOp : HloOp τ sig (Elt F) := StableHlo.reshape main_v10 main_v11 (rfl : (.f32 : EltTy) = .f32) shapeCasts_S52428800_S4096x12800x1

/-- The program on the TensorCore: the host's operations, the call, the last reshape. -/
theorem main_split (d : Dev nD) : main (F := F) d
    = StableHlo.seq packOps >>= fun _ => ((sc (F := F)).run d 0 >>= fun _ => hlo rfl shapeOp (fun _ => .ret (⟨⟩ : PUnit)) >>= fun _ => pure ⟨⟩) := by
  simp only [packOps, shapeOp, StableHlo.seq, bind_assoc, pure_bind]
  rfl

/-- `Mt`, as a function of the first argument. -/
def mtHost (a : S4096x100x128.Idx → Elt F .f32) : S100x4096x128.Idx → Elt F .f32 := transpose S100x4096x128 [1, 0, 2] a transposes_S4096x100x128_S100x4096x128_1_0_2

/-- The packed permutation, as a function of the second argument. -/
def pkHost (p : S12800.Idx → BitVec 32) : S6400.Idx → BitVec 32 :=
  shapeCast S6400 (ori (shapeCast S400x16 (extractStridedSlice S400x1x16 ![0, 0, 0] (shapeCast S400x2x16 p shapeCasts_S12800_S400x2x16) slices_S400x2x16_S400x1x16_0_0_0) shapeCasts_S400x1x16_S400x16)
      (Host.shli (shapeCast S400x16 (extractStridedSlice S400x1x16 ![0, 1, 0] (shapeCast S400x2x16 p shapeCasts_S12800_S400x2x16) slices_S400x2x16_S400x1x16_0_1_0) shapeCasts_S400x1x16_S400x16)
        (broadcastInDim S400x16 ![] bcast_S_S400x16 (constantI S_ 32 16#32))))
    shapeCasts_S400x16_S6400

/-- `Mt` and the packed permutation at the launch memory. -/
abbrev mtOf (d : Dev nD) : S100x4096x128.Idx → Elt F .f32 := mtHost (m ((SparseCore.T d).loc main_arg0))
abbrev pkOf (d : Dev nD) : S6400.Idx → BitVec 32 := pkHost (m ((SparseCore.T d).loc main_arg1))

/-! ## The TensorCore's buffers along the program -/

/-- The buffers before the call. -/
def V1 (d : Dev nD) : Valuation τ sig (Elt F) := StableHlo.after packOps (StableHlo.launchContents m d)
/-- The buffers after the call: the flat result holds the gathered rows. -/
def V2 (d : Dev nD) : Valuation τ sig (Elt F) := Function.update (V1 m d) v10' (flatOut (mtOf m d) (pkOf m d))
/-- The buffers at the end. -/
def V3 (d : Dev nD) : Valuation τ sig (Elt F) := (shapeOp (F := F)).result (V2 m d)

theorem V1_eq (d : Dev nD) : V1 m d = StableHlo.after packOps (StableHlo.launchContents m d) := rfl

theorem V1_v0 (d : Dev nD) : V1 m d v0' = mtOf m d := by
  unfold V1 packOps mtOf mtHost
  after_results

theorem V1_v9 (d : Dev nD) : V1 m d v9' = pkOf m d := by
  unfold V1 packOps pkOf pkHost
  after_results
  try rfl

theorem V1_v10 (d : Dev nD) : V1 m d v10' = m (outLoc d) := by
  unfold V1 packOps
  after_results

theorem V3_arg0 (d : Dev nD) : V3 m d (Proc.devRef .tc main_arg0) = m ((SparseCore.T d).loc main_arg0) := by
  unfold V3 shapeOp
  rw [StableHlo.reshape_result_ne (h := by decide)]
  unfold V2
  rw [Function.update_of_ne (show (Proc.devRef .tc main_arg0 : DevRef τ sig) ≠ v10' by decide)]
  unfold V1 packOps
  after_results

theorem V3_arg1 (d : Dev nD) : V3 m d (Proc.devRef .tc main_arg1) = m ((SparseCore.T d).loc main_arg1) := by
  unfold V3 shapeOp
  rw [StableHlo.reshape_result_ne (h := by decide)]
  unfold V2
  rw [Function.update_of_ne (show (Proc.devRef .tc main_arg1 : DevRef τ sig) ≠ v10' by decide)]
  unfold V1 packOps
  after_results

/-- The result is the flat result, reshaped. -/
theorem V3_v11 (d : Dev nD) : V3 m d (Proc.devRef .tc main_v11)
    = shapeCast S4096x12800x1 (flatOut (mtOf m d) (pkOf m d)) shapeCasts_S52428800_S4096x12800x1 := by
  unfold V3 shapeOp
  rw [StableHlo.reshape_result]
  unfold V2
  rw [Function.update_self]
  rfl

/-! ## What the call hands out -/

omit [FloatOps F] in
/-- The call's one grid as the launch sees it: sixteen subcores of two SparseCores. -/
theorem nSub_zero : (K (F := F)).nSub 0 = 16 := rfl
omit [FloatOps F] in
@[inherit_doc nSub_zero] theorem nCore_zero : (K (F := F)).nCore 0 = 2 := rfl

/-- The task of grid point `(c, i)`, its rows of the result at `g`. -/
abbrev taskAt (d : Dev nD) (g : S52428800.Idx → Elt F .f32) (c : Fin 2) (i : Fin 16) : sProp 𝕄 :=
  Task d (coordsV c i) (qPk c i) (qMt c i) (mtOf m d) (pkOf m d) g

omit [FloatOps F] in
theorem task_storable (qp : PosShare TreeShare) (q : Fin 4 → PosShare TreeShare) (mt : S100x4096x128.Idx → Elt F .f32) (pk : S6400.Idx → BitVec 32) (g : S52428800.Idx → Elt F .f32) (d : Dev nD) (L : grid0.Coords) :
    BI.Storable (upEmb : UEmb _ 𝕄) (Task d L qp q mt pk g) := by
  unfold Task; infer_instance

/-- The payloads: a SparseCore is handed its sixteen tasks, a subcore its one, and they come back with their rows in place. -/
def P : (K (F := F)).Pay (nD := nD) (Val := Elt F) (Name := ℕ) (U := UU) where
  st := fun q d c => match q with | 0 => bigSep Finset.univ fun i : Fin 16 => taskAt m d (m (outLoc d)) (Fin.cast nCore_zero c) i
  dn := fun q d c => match q with | 0 => bigSep Finset.univ fun i : Fin 16 => taskAt m d (flatOut (mtOf m d) (pkOf m d)) (Fin.cast nCore_zero c) i
  go := fun q d c i => match q with | 0 => taskAt m d (m (outLoc d)) (Fin.cast nCore_zero c) (Fin.cast nSub_zero i)
  td := fun q d c i => match q with | 0 => taskAt m d (flatOut (mtOf m d) (pkOf m d)) (Fin.cast nCore_zero c) (Fin.cast nSub_zero i)
  x := fun _ _ => iprop(emp)

instance P_storable : (P (F := F) m).IsStorable where
  st q d c := match q with
    | 0 => show BI.Storable (upEmb : UEmb _ 𝕄) (bigSep Finset.univ fun i : Fin 16 => taskAt m d (m (outLoc d)) (Fin.cast nCore_zero c) i) from
      @BI.Storable.bigSep _ _ _ _ _ _ _ _ _ fun _ => task_storable _ _ _ _ _ _ _
  dn q d c := match q with
    | 0 => show BI.Storable (upEmb : UEmb _ 𝕄) (bigSep Finset.univ fun i : Fin 16 => taskAt m d (flatOut (mtOf m d) (pkOf m d)) (Fin.cast nCore_zero c) i) from
      @BI.Storable.bigSep _ _ _ _ _ _ _ _ _ fun _ => task_storable _ _ _ _ _ _ _
  go q _ _ _ := match q with | 0 => task_storable _ _ _ _ _ _ _
  td q _ _ _ := match q with | 0 => task_storable _ _ _ _ _ _ _

/-! ## The launch theorem's obligations -/

theorem defs₀_vector (c : Fin τ.nSC) (s : Fin τ.nSub) :
    defs₀ (F := F) (.scVector c s) 0 ()
      = SparseCore.onTile hcore0 hsub0 (fun c s => cc0_gather_kernel (coordsV c s)
          mtV (Memref.isWhole_whole _) pkV (Memref.isWhole_whole _) outV (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          (Memref.whole cc0_scratch6) (Memref.isWhole_whole _) (Memref.whole cc0_scratch7) (Memref.isWhole_whole _) (Memref.whole cc0_scratch8) (Memref.isWhole_whole _)
          cc0_scratch9 cc0_scratch10 cc0_scoped0) ⟨⟩ c s := rfl

omit [FloatOps F] in
/-- A task's waits, said the way the launch asks. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every subcore's task runs. -/
theorem tileObl (hF : (K (F := F)).Facts) (hpk : ∀ d, InRange (pkOf m d)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF hO (hpk d)).trans (wp_mono frame _ _ fun _ => obl_post)

omit [FloatOps F] in
/-- The launch's subcores are the sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What a SparseCore is handed is its subcores' tasks. -/
theorem vecSplit : (K (F := F)).VecSplit' (P m) 0 := by
  intro d c
  show (bigSep Finset.univ fun i : Fin 16 => taskAt m d (m (outLoc d)) (Fin.cast nCore_zero c) i) ⊢ |={Set.univ}=> iprop(
      (bigSep Finset.univ fun i : Fin ((K (F := F)).nSub 0) => taskAt m d (m (outLoc d)) (Fin.cast nCore_zero c) (Fin.cast nSub_zero i))
      ∗ ((bigSep Finset.univ fun i : Fin ((K (F := F)).nSub 0) => taskAt m d (flatOut (mtOf m d) (pkOf m d)) (Fin.cast nCore_zero c) (Fin.cast nSub_zero i))
          -∗ bigSep Finset.univ fun i : Fin 16 => taskAt m d (flatOut (mtOf m d) (pkOf m d)) (Fin.cast nCore_zero c) i))
  rw [bigSep_tasks (F := F) (fun i => taskAt m d (m (outLoc d)) (Fin.cast nCore_zero c) i),
    bigSep_tasks (F := F) (fun i => taskAt m d (flatOut (mtOf m d) (pkOf m d)) (Fin.cast nCore_zero c) i)]
  iintro H; imodintro
  isplitl [H]; · iexact H
  iintro H
  iexact H

/-! ## The launch element: the handshakes' rounds, and nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program on the TensorCore -/

/-- The call's three arrays. -/
abbrev S3 : Finset (DevRef τ sig) := {v9', v0', v10'}
/-- All the TensorCore's arrays. -/
abbrev SA : Finset (DevRef τ sig) := Pipeline.ucRefs τ sig

theorem S3_sub : S3 ⊆ SA := fun b hb => by
  rw [Finset.mem_insert, Finset.mem_insert, Finset.mem_singleton] at hb
  rcases hb with rfl | rfl | rfl <;> exact Finset.mem_filter.mpr ⟨StableHlo.devRef_mem_tcRefs _, by decide⟩

omit [FloatOps F] in
theorem held_S3 (d : Dev nD) (W : Valuation τ sig (Elt F)) :
    (StableHlo.held (T d) S3 W : sProp 𝕄) = iprop((pkLoc d ↦{fullShare} W v9') ∗ (mtLoc d ↦{fullShare} W v0') ∗ outLoc d ↦{fullShare} W v10') := by
  unfold StableHlo.held S3
  rw [SparseCore.bigSep_insert' (by decide), SparseCore.bigSep_insert' (by decide), bigSep_singleton]

/-- The three arrays before the call are what the SparseCores are handed. -/
theorem start_eq (d : Dev nD) : (StableHlo.held (T d) S3 (V1 m d) : sProp 𝕄)
    = bigSep Finset.univ fun c : Fin ((K (F := F)).nCore 0) => (P m).st 0 d c := by
  rw [held_S3, V1_v9, V1_v0, V1_v10, whole_tasks]
  rfl

/-- What the SparseCores hand back is the three arrays after the call. -/
theorem done_eq (d : Dev nD) : (bigSep Finset.univ fun c : Fin ((K (F := F)).nCore 0) => (P m).dn 0 d c)
    = (StableHlo.held (T d) S3 (V2 m d) : sProp 𝕄) := by
  have e9 : V2 m d v9' = pkOf m d := (Function.update_of_ne (show v9' ≠ v10' by decide) _ _).trans (V1_v9 m d)
  have e0 : V2 m d v0' = mtOf m d := (Function.update_of_ne (show v0' ≠ v10' by decide) _ _).trans (V1_v0 m d)
  have e10 : V2 m d v10' = flatOut (mtOf m d) (pkOf m d) := Function.update_self _ _ _
  rw [held_S3, e9, e0, e10, whole_tasks]
  rfl

/-- The call changes no other array. -/
theorem rest_eq (d : Dev nD) : (StableHlo.held (T d) (SA \ S3) (V1 m d) : sProp 𝕄) = StableHlo.held (T d) (SA \ S3) (V2 m d) :=
  StableHlo.held_congr (T d) fun b hb => (Function.update_of_ne (fun e => (Finset.mem_sdiff.mp hb).2 (by rw [e]; simp)) _ _).symm

/-- What the program leaves: every array of the TensorCore at its last contents. -/
abbrev FIN (d : Dev nD) : sProp 𝕄 := StableHlo.held (T d) SA (V3 m d)

theorem packOps_sub : ∀ op ∈ packOps (F := F), op.bufs ⊆ SA := fun op hop =>
  Pipeline.sub_ucRefs op (by
    unfold packOps at hop
    simp only [List.mem_cons, List.not_mem_nil, or_false] at hop
    rcases hop with rfl | rfl | rfl | rfl | rfl | rfl | rfl | rfl | rfl | rfl | rfl
    all_goals first
      | exact StableHlo.unary_bufs_sub _ _ _ _ _
      | exact StableHlo.reshape_bufs_sub _ _ _ _ _ _
      | exact StableHlo.nullary_bufs_sub _ _ _
      | exact StableHlo.binary_bufs_sub _ _ _ _ _ _ _)

theorem shapeOp_sub : (shapeOp (F := F)).bufs ⊆ SA := Pipeline.sub_ucRefs _ (by unfold shapeOp; apply StableHlo.reshape_bufs_sub)

theorem packOps_fresh : ∀ op ∈ packOps (F := F), op.fresh = ∅ := by
  intro op hop
  unfold packOps at hop
  (repeat (cases hop with | head => rfl | tail _ hop => ?_)); exact nomatch hop

set_option backward.isDefEq.respectTransparency.types false in
/-- The program on device `d`'s TensorCore: the host's operations, the call, the reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (T d) SA (StableHlo.launchContents m d) from
    Pipeline.unscopedBufs_held d (StableHlo.launchContents m d), main_split]
  iintro ⟨#Hctx, Hst, ⟨Hb, Hheld, Hts, -⟩, -⟩
  iapply (StableHlo.wp_seq 𝒱 none Set.univ d SA _ packOps packOps_sub packOps_fresh (StableHlo.launchContents m d)) $$ [Hb Hheld]
  · isplitl [Hb]; · iexact Hb
    iexact Hheld
  iintro ⟨Hb, Hheld⟩
  ihave Hh := (Entails.of_eq (StableHlo.held_sub_split (T d) S3_sub (StableHlo.after packOps (StableHlo.launchContents m d)))) $$ Hheld
  icases Hh with ⟨H3, Hrest⟩
  ihave H3 := (Entails.of_eq ((congrArg (StableHlo.held (T d) S3) (V1_eq m d).symm).trans (start_eq m d))) $$ H3
  rw [wp_bind]
  iapply ((K (F := F)).wp_run (D (F := F)) 𝒱 (EH := EH) (P := P m) κ d 0) $$ [Hst H3 Hrest Hb Hts]
  isplitr; · iexact Hctx
  isplitl [Hst]; · iexact Hst
  isplitl [H3]; · iexact H3
  iintro ⟨Hst, Hdn⟩
  ihave H3 := (Entails.of_eq (done_eq m d)) $$ Hdn
  ihave Hrest := (Entails.of_eq ((congrArg (StableHlo.held (T d) (SA \ S3)) (V1_eq m d).symm).trans (rest_eq m d))) $$ Hrest
  rw [wp_bind]
  iapply (StableHlo.wp_hlo_within 𝒱 (SparseCore.T d) none Set.univ (op := shapeOp) (S := SA)
    shapeOp_sub (V := V2 m d)) $$ [Hb H3 Hrest]
  · isplitl [Hb]; · iexact Hb
    iapply (Entails.of_eq (StableHlo.held_sub_split (T d) S3_sub (V2 m d)).symm)
    isplitl [H3]; · iexact H3
    iexact Hrest
  iintro ⟨Hb, Hheld⟩
  rw [wp_ret]; imodintro
  rw [wp_pure]; imodintro
  isplitl [Hst]; · iexact Hst
  isplitr [Hb Hts]
  · iexact Hheld
  isplitl [Hb] <;> iassumption

/-- What a final memory holds on device `d`: every array of the TensorCore at its last contents. -/
def fq (d : Dev nD) (s' : Phys nD τ sig (Elt F)) : Prop := ∀ b ∈ SA, s'.mem.mem (d, b) = V3 m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) SA) $$ [HSI H]
  · isplitl [HSI]; · iexact HSI
    iexact H
  ipureintro
  exact h

/-! ## The program's run -/

/-- What every run ends in: the result is the flat result, reshaped; the arguments are unchanged; the semaphores are zero. -/
def QC : PUnit × MemSt nD τ sig (Elt F) → Prop := fun r =>
  (∀ d : Dev nD, r.2.mem ((SparseCore.T d).loc main_v11) = shapeCast S4096x12800x1 (flatOut (mtOf m d) (pkOf m d)) shapeCasts_S52428800_S4096x12800x1
    ∧ r.2.mem ((SparseCore.T d).loc main_arg0) = m ((SparseCore.T d).loc main_arg0)
    ∧ r.2.mem ((SparseCore.T d).loc main_arg1) = m ((SparseCore.T d).loc main_arg1)) ∧ r.2.sem = fun _ => 0

theorem tc_mem (r : Ref sig .tc) (h : (Proc.devRef .tc r : DevRef τ sig).isScoped = false) : (Proc.devRef .tc r : DevRef τ sig) ∈ SA :=
  Finset.mem_filter.mpr ⟨StableHlo.devRef_mem_tcRefs r, by rw [h]; exact Bool.false_ne_true⟩

/-- Every run of the program ends, with the result, the arguments and the semaphores as said. -/
theorem run_main [∀ e, Nonempty (Elt F e)] (hpk : ∀ d, InRange (pkOf m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpk)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨fun d => ⟨(h d _ (tc_mem main_v11 rfl)).trans (V3_v11 m d), (h d _ (tc_mem main_arg0 rfl)).trans (V3_arg0 m d),
      (h d _ (tc_mem main_arg1 rfl)).trans (V3_arg1 m d)⟩, hz⟩)

end Cert.Proof.Gather

end
-- ==== Proof.Value.lean ====
/-
  What the kernel's result is: the precondition read as a bound, the packed list as the permutation, and the result array
  as the reference's.
-/
module

public import proofs.«01_k».proof.Proof.Launch
public import proofs.«01_k».proof.Proof.Gen.Pre_in_range
public import proofs.«01_k».proof.Proof.Gen.ReferenceIdeal
public import Idealize.ShloMosaic.Lib.ReduceAll
public import Idealize.ShloMosaic.Lib.ValueIdxCore
public import Idealize.ShloMosaic.Lib.Pipeline.Value
public import Idealize.ShloMosaic.Lib.Affine

@[expose] public section

noncomputable section

namespace Cert.Proof.Gather

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig (HIx 1) (Elt F) ℕ UU ℕ
local notation "EC" => (countersEmb : UEmb Counters (MT nD τ sig (HIx 1) (Elt F) ℕ UU ℕ))

variable (d : Dev nD) (L : grid0.Coords)

open Idealize.ShloMosaic.ValueIdx

/-! ## The precondition -/

/-- A word that is at least 0 and below 12800, both read signed, is below 12800 read unsigned. -/
theorem word_of_bits (v : BitVec 32) (e : IntOp.andi (IntOp.cmpi .sge v 0#32) (IntOp.cmpi .slt v 12800#32) = 1#1) : v.toNat < 12800 := by
  have both : ∀ x y : Bool, IntOp.andi (BitVec.ofBool x) (BitVec.ofBool y) = 1#1 → x = true ∧ y = true := by decide
  obtain ⟨h1, h2⟩ := both _ _ e
  simp only [BitVec.sle_eq_decide, BitVec.slt_eq_decide, decide_eq_true_eq, BitVec.toInt_eq_toNat_cond, BitVec.toNat_ofNat,
    Nat.reducePow, Nat.reduceMod] at h1 h2
  omega

/-- What the precondition says: every entry of the permutation is below 12800. -/
theorem entries_lt (a : S4096x100x128.Idx → Elt F .f32) (p : S12800.Idx → BitVec 32)
    (h : Cert.Pre_in_range.fn (F := F) a p = fun _ => 1#1) (i : S12800.Idx) : (p i).toNat < 12800 := by
  haveI : Subsingleton Cert.Pre_in_range.S_.Idx := ⟨fun _ _ => funext fun x => x.elim0⟩
  have e := Host.reduce_andi_all _ _ _ _ _ (congrFun h ix0) i
  exact word_of_bits _ e

/-! ## The packed list -/

/-- The host's packing of two arrays of words, one word at a time. -/
theorem pack_at (x y : S400x16.Idx → BitVec 32) (i : S400x16.Idx) :
    ori x (Host.shli y (broadcastInDim S400x16 ![] bcast_S_S400x16 (constantI S_ 32 16#32))) i = x i ||| (y i <<< (16#32 : BitVec 32)) := by
  show IntOp.ori (x i) (IntOp.shli .host (y i) 16#32) = _
  unfold IntOp.ori IntOp.shli
  rw [if_pos (by decide)]

/-- Word `16 g + j` of the packed list: entry `32 g + j` of the permutation, with entry `32 g + 16 + j` above it. -/
theorem pkHost_word (p : S12800.Idx → BitVec 32) (g : Fin 400) (j : Fin 16) (k : ℕ) (hk : k = 16 * g.val + j.val) :
    pkHost p (at6400 k) = p (ix1 ⟨32 * g.val + j.val, by omega⟩) ||| (p (ix1 ⟨32 * g.val + 16 + j.val, by omega⟩) <<< (16#32 : BitVec 32)) := by
  have hkk : k % 6400 = k := Nat.mod_eq_of_lt (by omega)
  have half : ∀ (t : Fin 2) (h0 : S12800.ShapeCasts S400x2x16) (h1 : S400x2x16.Slices ![0, t.val, 0] S400x1x16) (h2 : S400x1x16.ShapeCasts S400x16),
      shapeCast S400x16 (extractStridedSlice S400x1x16 ![0, t.val, 0] (shapeCast S400x2x16 p h0) h1) h2 (ix2 g j)
        = p (ix1 ⟨32 * g.val + 16 * t.val + j.val, by omega⟩) := by
    intro t h0 h1 h2
    rw [shapeCast_apply _ h2 (ix2 g j) (ix3 g (0 : Fin 1) j) (by
      rw [Shape.rowMajor_val_three, Shape.rowMajor_val_two]
      show (g.val * 1 + 0) * 16 + j.val = g.val * 16 + j.val
      omega)]
    have e : extractStridedSlice S400x1x16 ![0, t.val, 0] (shapeCast S400x2x16 p h0) h1 (ix3 g (0 : Fin 1) j)
        = shapeCast S400x2x16 p h0 (ix3 g t j) := by
      unfold extractStridedSlice
      congr 1
      funext a
      apply Fin.ext
      match a with
      | ⟨0, _⟩ => show 0 + g.val = g.val; omega
      | ⟨1, _⟩ => show t.val + 0 = t.val; omega
      | ⟨2, _⟩ => show 0 + j.val = j.val; omega
    rw [e]
    refine shapeCast_apply _ h0 _ _ ?_
    rw [Shape.rowMajor_val_three, Shape.rowMajor_val_one]
    show 32 * g.val + 16 * t.val + j.val = (g.val * 2 + t.val) * 16 + j.val
    omega
  unfold pkHost
  rw [shapeCast_apply _ shapeCasts_S400x16_S6400 (at6400 k) (ix2 g j) (by
    rw [Shape.rowMajor_val_two, Shape.rowMajor_val_one]
    show g.val * 16 + j.val = k % 6400
    omega)]
  have e0 := half 0 shapeCasts_S12800_S400x2x16 slices_S400x2x16_S400x1x16_0_0_0 shapeCasts_S400x1x16_S400x16
  have e1 := half 1 shapeCasts_S12800_S400x2x16 slices_S400x2x16_S400x1x16_0_1_0 shapeCasts_S400x1x16_S400x16
  rw [pack_at]
  exact congrArg₂ (fun u v : BitVec 32 => u ||| (v <<< (16#32 : BitVec 32))) e0 e1

/-- A word below 12800 has no bit set from bit 14 on. -/
theorem bit_high (u : BitVec 32) (hu : u.toNat < 12800) (n : ℕ) (hn : 14 ≤ n) : u.getLsbD n = false := by
  rw [← BitVec.testBit_toNat]
  refine Nat.testBit_lt_two_pow (Nat.lt_of_lt_of_le (Nat.lt_of_lt_of_le hu (by decide : 12800 ≤ 2 ^ 14)) (Nat.pow_le_pow_right (by decide) hn))

/-- The same bit by the index notation. -/
theorem bit_high' (u : BitVec 32) (hu : u.toNat < 12800) (n : ℕ) (hn : 14 ≤ n) (h : n < 32) : u[n] = false := by
  rw [← BitVec.getLsbD_eq_getElem]; exact bit_high u hu n hn

/-- Two words below 12800 packed into one: the low half is the first, -/
theorem lo_pack (u v : BitVec 32) (hu : u.toNat < 12800) : lo (u ||| (v <<< (16#32 : BitVec 32))) = u := by
  unfold lo
  rw [BitVec.sshiftRight_eq']
  apply BitVec.eq_of_getLsbD_eq
  intro i hi
  simp only [BitVec.getLsbD_sshiftRight, BitVec.shiftLeft_eq', BitVec.getLsbD_shiftLeft, BitVec.getLsbD_or, BitVec.msb_eq_getLsbD_last,
    BitVec.toNat_ofNat, Nat.reducePow, Nat.reduceMod, Nat.reduceSub]
  by_cases h : i < 16
  · simp [h, hi, show 16 + i < 32 by omega]
  · simp [h, hi, show ¬ 16 + i < 32 by omega, show ¬ 32 ≤ i by omega, bit_high' u hu 15 (by omega) (by omega), bit_high' u hu i (by omega) hi]

/-- and the high half the second. -/
theorem hi_pack (u v : BitVec 32) (hu : u.toNat < 12800) (hv : v.toNat < 12800) : hi (u ||| (v <<< (16#32 : BitVec 32))) = v := by
  unfold hi
  rw [BitVec.sshiftRight_eq']
  apply BitVec.eq_of_getLsbD_eq
  intro i hi
  simp only [BitVec.getLsbD_sshiftRight, BitVec.shiftLeft_eq', BitVec.getLsbD_shiftLeft, BitVec.getLsbD_or, BitVec.msb_eq_getLsbD_last,
    BitVec.toNat_ofNat, Nat.reducePow, Nat.reduceMod, Nat.reduceSub]
  by_cases h : i < 16
  · simp [h, hi, show 16 + i < 32 by omega, show ¬ 32 ≤ i by omega, bit_high' u hu (16 + i) (by omega) (by omega)]
  · simp [h, hi, show ¬ 16 + i < 32 by omega, show ¬ 32 ≤ i by omega, bit_high' u hu 31 (by omega) (by omega), bit_high' v hv 15 (by omega) (by omega), bit_high' v hv i (by omega) hi]

/-- The packed list holds the permutation: its `o`-th index is the permutation's `o`-th entry. -/
theorem pix_pkHost (p : S12800.Idx → BitVec 32) (hp : ∀ i, (p i).toNat < 12800) (o : ℕ) (ho : o < 12800) :
    pix (pkHost p) o = p (ix1 ⟨o, ho⟩) := by
  have hw := pkHost_word p ⟨o / 32, by omega⟩ ⟨o % 16, by omega⟩ (16 * (o / 32) + o % 16) rfl
  unfold pix
  rw [hw]
  split
  · rw [lo_pack _ _ (hp _)]
    congr 2
    apply Fin.ext
    show 32 * (o / 32) + o % 16 = o
    omega
  · rw [hi_pack _ _ (hp _) (hp _)]
    congr 2
    apply Fin.ext
    show 32 * (o / 32) + 16 + o % 16 = o
    omega

/-- So every index of the packed list is in range. -/
theorem inRange_pkHost (p : S12800.Idx → BitVec 32) (hp : ∀ i, (p i).toNat < 12800) : InRange (pkHost p) :=
  fun o ho => by rw [pix_pkHost p hp o ho]; exact hp _

/-! ## The kernel's result -/

/-- The kernel's result at `(b, o, 0)`: the argument's element at row `k / 128`, column `k % 128` of batch entry `b`, for the
    permutation's `o`-th entry `k`. -/
theorem kernel_apply (a : S4096x100x128.Idx → Elt F .f32) (p : S12800.Idx → BitVec 32) (hp : ∀ i, (p i).toNat < 12800)
    (b : Fin 4096) (o : Fin 12800) (z : Fin 1) :
    shapeCast S4096x12800x1 (flatOut (mtHost a) (pkHost p)) shapeCasts_S52428800_S4096x12800x1 (ix3 b o z)
      = a (ix3 b ⟨(p (ix1 o)).toNat / 128, by have := hp (ix1 o); omega⟩ ⟨(p (ix1 o)).toNat % 128, by omega⟩) := by
  have hlt := hp (ix1 o)
  rw [shapeCast_apply _ shapeCasts_S52428800_S4096x12800x1 (ix3 b o z) (ix1 ⟨b.val * 12800 + o.val, by omega⟩) (by
    rw [Shape.rowMajor_val_three, Shape.rowMajor_val_one]
    show b.val * 12800 + o.val = (b.val * 12800 + o.val) * 1 + z.val
    omega)]
  show gath (mtHost a) (pkHost p) ((b.val * 12800 + o.val) / 12800) ((b.val * 12800 + o.val) % 12800) = _
  rw [show (b.val * 12800 + o.val) / 12800 = b.val by omega, show (b.val * 12800 + o.val) % 12800 = o.val by omega]
  unfold gath
  rw [pix_pkHost p hp o.val o.isLt]
  unfold mtHost
  refine transpose_apply _ _ _ _ _ fun x => ?_
  match x with
  | ⟨0, _⟩ => show (p (ix1 o)).toNat / 128 = (p (ix1 o)).toNat / 128 % 100; omega
  | ⟨1, _⟩ => show b.val = b.val % 4096; omega
  | ⟨2, _⟩ => show (p (ix1 o)).toNat % 128 = (p (ix1 o)).toNat % 128 % 128; omega

/-! ## The reference's result -/

local notation "gd" => Cert.ReferenceIdeal.gather_S4096x12800x1_S12800x1_S4096x12800x1_02_1_n_n_1_1_409611

/-- The reference's indexing at `(b, o, z)`: the operand's element at the `o`-th index, when that index is in range. -/
theorem gather_at (x : Cert.ReferenceIdeal.S4096x12800x1.Idx → Elt F .f32) (idx : IVec Cert.ReferenceIdeal.S12800x1 32)
    (b : Fin 4096) (o : Fin 12800) (z : Fin 1) (k : Fin 12800) (hk : (idx (ix2 o (0 : Fin 1))).toNat = k.val) :
    Host.gather gd x idx (ix3 b o z) = x (ix3 b k z) := by
  unfold Host.gather
  congr 1
  funext a
  apply Fin.ext
  show GatherDims.start gd (ix3 b o z) idx a + GatherDims.batchCoord gd (ix3 b o z) a + GatherDims.offCoord gd (ix3 b o z) a = _
  rw [GatherDims.batchCoord_eq_zero _ _ _ List.not_mem_nil]
  match a with
  | ⟨0, _⟩ =>
    show 0 + 0 + b.val = b.val
    omega
  | ⟨1, _⟩ =>
    have hsi : ∀ c, GatherDims.siIdx gd (ix3 b o z) c = ix2 o (0 : Fin 1) := fun c => by
      funext y
      apply Fin.ext
      match y with
      | ⟨0, _⟩ => rfl
      | ⟨1, _⟩ => show c.val = 0; have : c.val < 1 := c.isLt; omega
    show min (idx (GatherDims.siIdx gd (ix3 b o z) _)).toInt.toNat (12800 - 1) + 0 + 0 = k.val
    rw [hsi]
    have := k.isLt
    rw [BitVec.toInt_eq_toNat_cond, hk]
    omega
  | ⟨2, _⟩ =>
    show 0 + 0 + z.val = z.val
    omega

/-- The reference's result as its operations compute it. -/
def refOut (a : S4096x100x128.Idx → Elt F .f32) (p : S12800.Idx → BitVec 32) : Cert.ReferenceIdeal.S4096x12800x1.Idx → Elt F .f32 :=
  Host.gather gd (shapeCast _ a Cert.ReferenceIdeal.Gen.shapeCasts_S4096x100x128_S4096x12800x1)
    (broadcastInDim Cert.ReferenceIdeal.S12800x1 ![0] Cert.ReferenceIdeal.Gen.bcast_S12800_S12800x1_0
      (select (cmpi .slt p (broadcastInDim Cert.ReferenceIdeal.S12800 ![] Cert.ReferenceIdeal.Gen.bcast_S_S12800 (constantI Cert.ReferenceIdeal.S_ 32 0#32)))
        (addi p (broadcastInDim Cert.ReferenceIdeal.S12800 ![] Cert.ReferenceIdeal.Gen.bcast_S_S12800 (constantI Cert.ReferenceIdeal.S_ 32 12800#32))) p))

/-- The reference's result at `(b, o, z)` is the kernel's. -/
theorem ref_apply (a : S4096x100x128.Idx → Elt F .f32) (p : S12800.Idx → BitVec 32) (hp : ∀ i, (p i).toNat < 12800)
    (b : Fin 4096) (o : Fin 12800) (z : Fin 1) :
    refOut a p (ix3 b o z)
      = a (ix3 b ⟨(p (ix1 o)).toNat / 128, by have := hp (ix1 o); omega⟩ ⟨(p (ix1 o)).toNat % 128, by omega⟩) := by
  have hlt := hp (ix1 o)
  unfold refOut
  rw [gather_at _ _ b o z ⟨(p (ix1 o)).toNat, hlt⟩ (by
    have e : ∀ v : BitVec 32, v.toNat < 12800 → Scalar.select (IntOp.cmpi .slt v 0#32) (IntOp.addi v 12800#32) v = v := by
      intro v hv
      have hn : IntOp.cmpi .slt v 0#32 ≠ 1#1 := by
        rw [ne_eq, IntOp.cmpi_slt, BitVec.toInt_eq_toNat_cond]
        simp only [BitVec.toInt_zero]
        omega
      unfold Scalar.select
      exact if_neg hn
    have bi : ∀ f : Cert.ReferenceIdeal.S12800.Idx → BitVec 32, broadcastInDim Cert.ReferenceIdeal.S12800x1 ![0]
        Cert.ReferenceIdeal.Gen.bcast_S12800_S12800x1_0 f (ix2 o (0 : Fin 1)) = f (ix1 o) := fun f => by
      unfold broadcastInDim
      congr 1
      funext y
      match y with
      | ⟨0, _⟩ => rfl
    rw [bi]
    exact congrArg BitVec.toNat (e _ hlt))]
  refine shapeCast_apply _ _ _ _ ?_
  rw [Shape.rowMajor_val_three, Shape.rowMajor_val_three]
  show (b.val * 100 + (p (ix1 o)).toNat / 128) * 128 + (p (ix1 o)).toNat % 128 = (b.val * 12800 + (p (ix1 o)).toNat) * 1 + z.val
  omega

/-- The kernel's result is the reference's, for every permutation in range. -/
theorem kernel_eq_ref (a : S4096x100x128.Idx → Elt F .f32) (p : S12800.Idx → BitVec 32) (hp : ∀ i, (p i).toNat < 12800) :
    shapeCast S4096x12800x1 (flatOut (mtHost a) (pkHost p)) shapeCasts_S52428800_S4096x12800x1 = refOut a p := by
  funext x
  obtain ⟨b, o, z, rfl⟩ : ∃ (b : Fin 4096) (o : Fin 12800) (z : Fin 1), x = ix3 b o z := ⟨x 0, x 1, x 2, eq_ix3 x⟩
  exact (kernel_apply a p hp b o z).trans (ref_apply a p hp b o z).symm

end Cert.Proof.Gather

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Value
public import Idealize.ShloMosaic.Adequacy
public import Idealize.ShloMosaic.Init

@[expose] public section

noncomputable section

namespace Cert.Proof

open Idealize.ShloMosaic Idealize.SL.Sem

/-- The kernel, at the machine's floats: from a permutation in range it runs to the end without fault, leaves both arguments
    as they were and every semaphore counter at zero. -/
theorem frame_kernel : Cert.quiescent_Kernel := fun m ρ hpre =>
  (θ_run Cert.KernelIdeal.defs _ _).mono (fun _ h => ⟨fun c => (h.1 c).2, h.2⟩)
    (Gather.run_main (F := Bits) m ρ fun d => Gather.inRange_pkHost _ (Gather.entries_lt (F := Bits) _ _ (hpre d)))

/-- The same over the extended reals. -/
theorem frame_kernelIdeal : Cert.quiescent_KernelIdeal := fun m ρ hpre =>
  (θ_run Cert.KernelIdeal.defs _ _).mono (fun _ h => ⟨fun c => (h.1 c).2, h.2⟩)
    (Gather.run_main (F := Ideal) m ρ fun d => Gather.inRange_pkHost _ (Gather.entries_lt (F := Ideal) _ _ (hpre d)))

/-- The reference runs to the end, leaves its arguments as they were, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame again, from memories that satisfy the precondition. -/
theorem frame_reference_in_range : Cert.quiescent_ReferenceIdeal_pre_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference, from the same arguments with the permutation in range, end with the same result. -/
theorem same_result : Cert.algebraic_KernelIdeal_ReferenceIdeal := fun m ρ m' ρ' hpre hagree => by
  have hp := fun d => Gather.entries_lt (F := Ideal) _ _ (hpre d)
  refine ⟨_, (θ_run Cert.KernelIdeal.defs _ _).mono (fun _ h => h.1)
    (Gather.run_main (F := Ideal) m ρ fun d => Gather.inRange_pkHost _ (hp d)), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Gather.kernel_eq_ref (F := Ideal) _ _ (hp c)).symm

/-- Every claim of the certificate. -/
theorem claim : Cert.Claim :=
  ⟨Cert.Kernel.Gen.facts, Cert.KernelIdeal.Gen.facts, Cert.ReferenceIdeal.Gen.facts, Cert.Pre_in_range.Gen.facts,
    frame_kernel, frame_kernelIdeal, frame_reference, frame_reference_in_range, trivial, same_result⟩

end Cert.Proof

end
